-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_the_graph [hPre_the_graph : Cert.Pre_the_graph.Facts] (m : (ℓ : Loc Cert.KernelIdeal.nD Cert.KernelIdeal.τ Cert.KernelIdeal.sig) → Buf (Elt Ideal) ℓ) : Prop :=
  ∀ c : Dev Cert.KernelIdeal.nD,
    (Cert.Pre_the_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_the_graph [hPre_the_graph : Cert.Pre_the_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_the_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_the_graph [hKernelIdeal : Cert.KernelIdeal.Facts] [hPre_the_graph : Cert.Pre_the_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_the_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_the_graph [hReferenceIdeal : Cert.ReferenceIdeal.Facts] [hPre_the_graph : Cert.Pre_the_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_the_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "rsqrt13" .f32 0x3E8E00D5#32 (((Real.sqrt 13)⁻¹ : ℝ) : EReal)
  ∧ IdealRules.named_const.Statement Cert.KernelIdeal.κ "rsqrt5" .f32 0x3EE4F92E#32 (((Real.sqrt 5)⁻¹ : ℝ) : EReal)
  ∧ IdealRules.named_const.Statement Cert.KernelIdeal.κ "half_rsqrt13" .f32 0x3E0E00D5#32 (((Real.sqrt 52)⁻¹ : ℝ) : EReal)
  ∧ IdealRules.named_const.Statement Cert.KernelIdeal.κ "half_rsqrt5" .f32 0x3E64F92E#32 (((Real.sqrt 20)⁻¹ : ℝ) : EReal)

def algebraic_KernelIdeal_ReferenceIdeal_pre_the_graph [hKernelIdeal : Cert.KernelIdeal.Facts] [hReferenceIdeal : Cert.ReferenceIdeal.Facts] [hPre_the_graph : Cert.Pre_the_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_the_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_the_graph : Cert.Pre_the_graph.Facts),
    quiescent_Kernel (hKernel := hKernel)
    ∧ quiescent_KernelIdeal (hKernelIdeal := hKernelIdeal)
    ∧ quiescent_KernelIdeal_pre_the_graph (hKernelIdeal := hKernelIdeal) (hPre_the_graph := hPre_the_graph)
    ∧ quiescent_ReferenceIdeal (hReferenceIdeal := hReferenceIdeal)
    ∧ quiescent_ReferenceIdeal_pre_the_graph (hReferenceIdeal := hReferenceIdeal) (hPre_the_graph := hPre_the_graph)
    ∧ preserves_Kernel_KernelIdeal
    ∧ algebraic_KernelIdeal_ReferenceIdeal_pre_the_graph (hKernelIdeal := hKernelIdeal) (hReferenceIdeal := hReferenceIdeal) (hPre_the_graph := hPre_the_graph)
-- ==== Pre_the_graph.lean ====
abbrev S1024x256 : Shape := ⟨2, ![1024, 256]⟩
abbrev S64x256 : Shape := ⟨2, ![64, 256]⟩
abbrev S64 : Shape := ⟨1, ![64]⟩
abbrev S64x64 : Shape := ⟨2, ![64, 64]⟩
abbrev S110 : Shape := ⟨1, ![110]⟩
abbrev S_ : Shape := ⟨0, ![]⟩

class Facts : Prop where
  reducesTo_S110_S_d0 : S110.ReducesTo [0] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

noncomputable abbrev lit0 : Fin 110 → BitVec 32 := fun
  | 0 => 0#32 | 1 => 0#32 | 2 => 0#32 | 3 => 0#32 | 4 => 0#32 | 5 => 0#32 | 6 => 0#32 | 7 => 0#32
  | 8 => 0#32 | 9 => 0#32 | 10 => 0#32 | 11 => 0#32 | 12 => 0#32 | 13 => 1#32 | 14 => 1#32 | 15 => 1#32
  | 16 => 1#32 | 17 => 2#32 | 18 => 2#32 | 19 => 2#32 | 20 => 2#32 | 21 => 3#32 | 22 => 3#32 | 23 => 3#32
  | 24 => 3#32 | 25 => 3#32 | 26 => 4#32 | 27 => 4#32 | 28 => 4#32 | 29 => 4#32 | 30 => 5#32 | 31 => 5#32
  | 32 => 5#32 | 33 => 5#32 | 34 => 6#32 | 35 => 6#32 | 36 => 6#32 | 37 => 6#32 | 38 => 6#32 | 39 => 7#32
  | 40 => 7#32 | 41 => 7#32 | 42 => 7#32 | 43 => 8#32 | 44 => 8#32 | 45 => 8#32 | 46 => 8#32 | 47 => 9#32
  | 48 => 9#32 | 49 => 9#32 | 50 => 9#32 | 51 => 9#32 | 52 => 9#32 | 53 => 9#32 | 54 => 9#32 | 55 => 9#32
  | 56 => 9#32 | 57 => 9#32 | 58 => 9#32 | 59 => 9#32 | 60 => 10#32 | 61 => 10#32 | 62 => 10#32 | 63 => 10#32
  | 64 => 11#32 | 65 => 11#32 | 66 => 11#32 | 67 => 11#32 | 68 => 12#32 | 69 => 12#32 | 70 => 12#32 | 71 => 12#32
  | 72 => 12#32 | 73 => 13#32 | 74 => 13#32 | 75 => 13#32 | 76 => 13#32 | 77 => 14#32 | 78 => 14#32 | 79 => 14#32
  | 80 => 14#32 | 81 => 15#32 | 82 => 15#32 | 83 => 15#32 | 84 => 15#32 | 85 => 15#32 | 86 => 16#32 | 87 => 16#32
  | 88 => 16#32 | 89 => 16#32 | 90 => 17#32 | 91 => 17#32 | 92 => 17#32 | 93 => 17#32 | 94 => 18#32 | 95 => 18#32
  | 96 => 18#32 | 97 => 18#32 | 98 => 19#32 | 99 => 19#32 | 100 => 19#32 | 101 => 19#32 | 102 => 20#32 | 103 => 20#32
  | 104 => 20#32 | 105 => 20#32 | 106 => 21#32 | 107 => 21#32 | 108 => 21#32 | 109 => 21#32
  | _ => 0#32

noncomputable abbrev lit1 : Fin 110 → BitVec 32 := fun
  | 0 => 1#32 | 1 => 2#32 | 2 => 3#32 | 3 => 4#32 | 4 => 5#32 | 5 => 6#32 | 6 => 7#32 | 7 => 8#32
  | 8 => 9#32 | 9 => 10#32 | 10 => 11#32 | 11 => 12#32 | 12 => 15#32 | 13 => 0#32 | 14 => 4#32 | 15 => 7#32
  | 16 => 10#32 | 17 => 0#32 | 18 => 5#32 | 19 => 8#32 | 20 => 11#32 | 21 => 0#32 | 22 => 6#32 | 23 => 9#32
  | 24 => 12#32 | 25 => 15#32 | 26 => 0#32 | 27 => 1#32 | 28 => 7#32 | 29 => 10#32 | 30 => 0#32 | 31 => 2#32
  | 32 => 8#32 | 33 => 11#32 | 34 => 0#32 | 35 => 3#32 | 36 => 9#32 | 37 => 12#32 | 38 => 15#32 | 39 => 0#32
  | 40 => 1#32 | 41 => 4#32 | 42 => 10#32 | 43 => 0#32 | 44 => 2#32 | 45 => 5#32 | 46 => 11#32 | 47 => 0#32
  | 48 => 3#32 | 49 => 6#32 | 50 => 12#32 | 51 => 13#32 | 52 => 14#32 | 53 => 15#32 | 54 => 16#32 | 55 => 17#32
  | 56 => 18#32 | 57 => 19#32 | 58 => 20#32 | 59 => 21#32 | 60 => 0#32 | 61 => 1#32 | 62 => 4#32 | 63 => 7#32
  | 64 => 0#32 | 65 => 2#32 | 66 => 5#32 | 67 => 8#32 | 68 => 0#32 | 69 => 3#32 | 70 => 6#32 | 71 => 9#32
  | 72 => 15#32 | 73 => 9#32 | 74 => 16#32 | 75 => 18#32 | 76 => 20#32 | 77 => 9#32 | 78 => 17#32 | 79 => 19#32
  | 80 => 21#32 | 81 => 0#32 | 82 => 3#32 | 83 => 6#32 | 84 => 9#32 | 85 => 12#32 | 86 => 9#32 | 87 => 13#32
  | 88 => 18#32 | 89 => 20#32 | 90 => 9#32 | 91 => 14#32 | 92 => 19#32 | 93 => 21#32 | 94 => 9#32 | 95 => 13#32
  | 96 => 16#32 | 97 => 20#32 | 98 => 9#32 | 99 => 14#32 | 100 => 17#32 | 101 => 21#32 | 102 => 9#32 | 103 => 13#32
  | 104 => 16#32 | 105 => 18#32 | 106 => 9#32 | 107 => 14#32 | 108 => 17#32 | 109 => 19#32
  | _ => 0#32

def fn {F : FTy → Type} [FloatOps F] (main_arg0 : FVec F S1024x256 .f32) (main_arg1 : FVec F S64x256 .f32) (main_arg2 : FVec F S64 .f32) (main_arg3 : FVec F S64x256 .f32) (main_arg4 : FVec F S64 .f32) (main_arg5 : FVec F S64x256 .f32) (main_arg6 : FVec F S64 .f32) (main_arg7 : FVec F S64x64 .f32) (main_arg8 : FVec F S64 .f32) (main_arg9 : IVec S110 32) (main_arg10 : IVec S110 32) : IVec S_ 1 :=
  let main_c : IVec S110 32 := fun i => lit0 (S110.rowMajor i)
  let main_c_0 : IVec S110 32 := fun i => lit1 (S110.rowMajor i)
  let main_v0 : IVec S110 1 := cmpi .eq main_arg9 main_c
  let main_c_1 : IVec S_ 1 := constantI S_ 1 1#1
  let main_v1 : IVec S_ 1 := (fun x v => Host.reduce IntOp.andi x v reducesTo_S110_S_d0 h_S_) main_v0 main_c_1
  let main_v2 : IVec S110 1 := cmpi .eq main_arg10 main_c_0
  let main_c_2 : IVec S_ 1 := constantI S_ 1 1#1
  let main_v3 : IVec S_ 1 := (fun x v => Host.reduce IntOp.andi x v reducesTo_S110_S_d0 h_S_) main_v2 main_c_2
  let main_v4 : IVec S_ 1 := andi main_v1 main_v3
  let main_v5 : FVec F S64x64 .f32 := Host.absf main_arg7
  let main_cst : FVec F S_ .f32 := constant S_ .f32 0x7F800000#32
  let main_v6 : FVec F S64x64 .f32 := broadcastInDim S64x64 ![] bcast_S_S64x64 main_cst
  let main_v7 : IVec S64x64 1 := cmpf .olt main_v5 main_v6
  let main_c_3 : IVec S_ 1 := constantI S_ 1 1#1
  let main_v8 : IVec S_ 1 := (fun x v => Host.reduce IntOp.andi x v reducesTo_S64x64_S_d0_1 h_S_) main_v7 main_c_3
  let main_v9 : IVec S_ 1 := andi main_v4 main_v8
  let main_v10 : FVec F S64 .f32 := Host.absf main_arg8
  let main_cst_4 : FVec F S_ .f32 := constant S_ .f32 0x7F800000#32
  let main_v11 : FVec F S64 .f32 := broadcastInDim S64 ![] bcast_S_S64 main_cst_4
  let main_v12 : IVec S64 1 := cmpf .olt main_v10 main_v11
  let main_c_5 : IVec S_ 1 := constantI S_ 1 1#1
  let main_v13 : IVec S_ 1 := (fun x v => Host.reduce IntOp.andi x v reducesTo_S64_S_d0 h_S_) main_v12 main_c_5
  let main_v14 : IVec S_ 1 := andi main_v9 main_v13
  main_v14
-- ==== Kernel.lean ====
abbrev S1024x256 : Shape := ⟨2, ![1024, 256]⟩
abbrev S64x256 : Shape := ⟨2, ![64, 256]⟩
abbrev S64 : Shape := ⟨1, ![64]⟩
abbrev S64x64 : Shape := ⟨2, ![64, 64]⟩
abbrev S110 : Shape := ⟨1, ![110]⟩
abbrev S_ : Shape := ⟨0, ![]⟩
abbrev S192x256 : Shape := ⟨2, ![192, 256]⟩
abbrev S256x192 : Shape := ⟨2, ![256, 192]⟩
abbrev S192 : Shape := ⟨1, ![192]⟩
abbrev S1x192 : Shape := ⟨2, ![1, 192]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S1024x28160 : Shape := ⟨2, ![1024, 28160]⟩
abbrev S1024x1408 : Shape := ⟨2, ![1024, 1408]⟩
abbrev S22x512x128 : Shape := ⟨3, ![22, 512, 128]⟩
abbrev S512x384 : Shape := ⟨2, ![512, 384]⟩
abbrev S1024x192 : Shape := ⟨2, ![1024, 192]⟩
abbrev S512x64 : Shape := ⟨2, ![512, 64]⟩
abbrev S512x128 : Shape := ⟨2, ![512, 128]⟩
abbrev S1x512x128 : Shape := ⟨3, ![1, 512, 128]⟩
abbrev S11264x128 : Shape := ⟨2, ![11264, 128]⟩

abbrev nBuf : Space → Nat
  | .hbm => 35
  | .vmem => 9
  | .smem => 0
  | _ => 0

abbrev bufTy : (tb : Table) → Fin (tcTables nBuf tb) → BufTy
  | .hbm, ⟨0, _⟩ => ⟨S1024x256, .f32⟩
  | .hbm, ⟨1, _⟩ => ⟨S64x256, .f32⟩
  | .hbm, ⟨2, _⟩ => ⟨S64, .f32⟩
  | .hbm, ⟨3, _⟩ => ⟨S64x256, .f32⟩
  | .hbm, ⟨4, _⟩ => ⟨S64, .f32⟩
  | .hbm, ⟨5, _⟩ => ⟨S64x256, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S110, .i32⟩
  | .hbm, ⟨10, _⟩ => ⟨S110, .i32⟩
  | .hbm, ⟨11, _⟩ => ⟨S_, .f32⟩
  | .hbm, ⟨12, _⟩ => ⟨S64x256, .f32⟩
  | .hbm, ⟨13, _⟩ => ⟨S64x256, .f32⟩
  | .hbm, ⟨14, _⟩ => ⟨S_, .f32⟩
  | .hbm, ⟨15, _⟩ => ⟨S64x256, .f32⟩
  | .hbm, ⟨16, _⟩ => ⟨S64x256, .f32⟩
  | .hbm, ⟨17, _⟩ => ⟨S192x256, .f32⟩
  | .hbm, ⟨18, _⟩ => ⟨S256x192, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S192, .f32⟩
  | .hbm, ⟨26, _⟩ => ⟨S1x192, .f32⟩
  | .hbm, ⟨27, _⟩ => ⟨S_, .f32⟩
  | .hbm, ⟨28, _⟩ => ⟨S64x64, .f32⟩
  | .hbm, ⟨29, _⟩ => ⟨S64x128, .f32⟩
  | .hbm, ⟨30, _⟩ => ⟨S64x128, .f32⟩
  | .hbm, ⟨31, _⟩ => ⟨S128x128, .f32⟩
  | .hbm, ⟨32, _⟩ => ⟨S128, .f32⟩
  | .hbm, ⟨33, _⟩ => ⟨S1x128, .f32⟩
  | .hbm, ⟨34, _⟩ => ⟨S1024x28160, .f32⟩
  | .local _ .vmem, ⟨0, _⟩ => ⟨S1024x256, .f32⟩
  | .local _ .vmem, ⟨1, _⟩ => ⟨S256x192, .f32⟩
  | .local _ .vmem, ⟨2, _⟩ => ⟨S1x192, .f32⟩
  | .local _ .vmem, ⟨3, _⟩ => ⟨S128x128, .f32⟩
  | .local _ .vmem, ⟨4, _⟩ => ⟨S1x128, .f32⟩
  | .local _ .vmem, ⟨5, _⟩ => ⟨S1024x1408, .f32⟩
  | .local _ .vmem, ⟨6, _⟩ => ⟨S1024x1408, .f32⟩
  | .local _ .vmem, ⟨7, _⟩ => ⟨S22x512x128, .f32⟩
  | .local _ .vmem, ⟨8, _⟩ => ⟨S512x384, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨2, ![1, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "half_rsqrt13" => some (((Real.sqrt 52)⁻¹ : ℝ) : EReal)
  | "half_rsqrt5" => some (((Real.sqrt 20)⁻¹ : ℝ) : EReal)
  | "rsqrt13" => some (((Real.sqrt 13)⁻¹ : ℝ) : EReal)
  | "rsqrt5" => some (((Real.sqrt 5)⁻¹ : ℝ) : EReal)
  | _ => none
-- ==== ReferenceIdeal.lean ====
abbrev S1024x256 : Shape := ⟨2, ![1024, 256]⟩
abbrev S64x256 : Shape := ⟨2, ![64, 256]⟩
abbrev S64 : Shape := ⟨1, ![64]⟩
abbrev S64x64 : Shape := ⟨2, ![64, 64]⟩
abbrev S110 : Shape := ⟨1, ![110]⟩
abbrev S_ : Shape := ⟨0, ![]⟩
abbrev S22 : Shape := ⟨1, ![22]⟩
abbrev S110x1 : Shape := ⟨2, ![110, 1]⟩
abbrev S256x64 : Shape := ⟨2, ![256, 64]⟩
abbrev S1024x64 : Shape := ⟨2, ![1024, 64]⟩
abbrev S1x64 : Shape := ⟨2, ![1, 64]⟩
abbrev S1024x1x64 : Shape := ⟨3, ![1024, 1, 64]⟩
abbrev S1024x22x64 : Shape := ⟨3, ![1024, 22, 64]⟩
abbrev S20x1024x22x64 : Shape := ⟨4, ![20, 1024, 22, 64]⟩
abbrev S1x22x1 : Shape := ⟨3, ![1, 22, 1]⟩
abbrev S1 : Shape := ⟨1, ![1]⟩
abbrev S1x1 : Shape := ⟨2, ![1, 1]⟩
abbrev S1024x110x64 : Shape := ⟨3, ![1024, 110, 64]⟩
abbrev S110x1024x64 : Shape := ⟨3, ![110, 1024, 64]⟩
abbrev S22x1024x64 : Shape := ⟨3, ![22, 1024, 64]⟩
abbrev S1x1x64 : Shape := ⟨3, ![1, 1, 64]⟩
abbrev S1x1024x22x64 : Shape := ⟨4, ![1, 1024, 22, 64]⟩
abbrev S1024x20x22x64 : Shape := ⟨4, ![1024, 20, 22, 64]⟩
abbrev S1024x28160 : Shape := ⟨2, ![1024, 28160]⟩

abbrev nBuf : Space → Nat
  | .hbm => 149
  | .vmem => 0
  | .smem => 0
  | _ => 0

abbrev hbmTy0_0 (i : Nat) : BufTy := match i % 128 with
  | 0 => ⟨S1024x256, .f32⟩
  | 1 => ⟨S64x256, .f32⟩
  | 2 => ⟨S64, .f32⟩
  | 3 => ⟨S64x256, .f32⟩
  | 4 => ⟨S64, .f32⟩
  | 5 => ⟨S64x256, .f32⟩
  | 6 => ⟨S64, .f32⟩
  | 7 => ⟨S64x64, .f32⟩
  | 8 => ⟨S64, .f32⟩
  | 9 => ⟨S110, .i32⟩
  | 10 => ⟨S110, .i32⟩
  | 11 => ⟨S_, .i32⟩
  | 12 => ⟨S22, .i32⟩
  | 13 => ⟨S_, .i32⟩
  | 14 => ⟨S_, .i32⟩
  | 15 => ⟨S110, .i32⟩
  | 16 => ⟨S110, .i32⟩
  | 17 => ⟨S_, .i32⟩
  | 18 => ⟨S110, .i32⟩
  | 19 => ⟨S110, .i1⟩
  | 20 => ⟨S_, .i32⟩
  | 21 => ⟨S110, .i32⟩
  | 22 => ⟨S110, .i32⟩
  | 23 => ⟨S110, .i32⟩
  | 24 => ⟨S110x1, .i32⟩
  | 25 => ⟨S_, .i32⟩
  | 26 => ⟨S110, .i32⟩
  | 27 => ⟨S22, .i32⟩
  | 28 => ⟨S_, .i32⟩
  | 29 => ⟨S22, .i32⟩
  | 30 => ⟨S22, .i32⟩
  | 31 => ⟨S22, .f32⟩
  | 32 => ⟨S_, .f32⟩
  | 33 => ⟨S22, .f32⟩
  | 34 => ⟨S22, .f32⟩
  | 35 => ⟨S256x64, .f32⟩
  | 36 => ⟨S1024x64, .f32⟩
  | 37 => ⟨S1x64, .f32⟩
  | 38 => ⟨S1024x64, .f32⟩
  | 39 => ⟨S1024x64, .f32⟩
  | 40 => ⟨S1024x1x64, .f32⟩
  | 41 => ⟨S256x64, .f32⟩
  | 42 => ⟨S1024x64, .f32⟩
  | 43 => ⟨S1x64, .f32⟩
  | 44 => ⟨S1024x64, .f32⟩
  | 45 => ⟨S1024x64, .f32⟩
  | 46 => ⟨S1024x1x64, .f32⟩
  | 47 => ⟨S256x64, .f32⟩
  | 48 => ⟨S1024x64, .f32⟩
  | 49 => ⟨S1x64, .f32⟩
  | 50 => ⟨S1024x64, .f32⟩
  | 51 => ⟨S1024x64, .f32⟩
  | 52 => ⟨S1024x1x64, .f32⟩
  | 53 => ⟨S_, .f32⟩
  | 54 => ⟨S1024x22x64, .f32⟩
  | 55 => ⟨S_, .f32⟩
  | 56 => ⟨S20x1024x22x64, .f32⟩
  | 57 => ⟨S_, .i32⟩
  | 58 => ⟨S64x64, .f32⟩
  | 59 => ⟨S22, .f32⟩
  | 60 => ⟨S110, .i32⟩
  | 61 => ⟨S110, .i32⟩
  | 62 => ⟨S64, .f32⟩
  | 63 => ⟨S1024x1x64, .f32⟩
  | 64 => ⟨S1024x1x64, .f32⟩
  | 65 => ⟨S1024x1x64, .f32⟩
  | 66 => ⟨S_, .i32⟩
  | 67 => ⟨S1024x22x64, .f32⟩
  | 68 => ⟨S20x1024x22x64, .f32⟩
  | 69 => ⟨S_, .i32⟩
  | 70 => ⟨S_, .i1⟩
  | 71 => ⟨S1024x22x64, .f32⟩
  | 72 => ⟨S1x22x1, .f32⟩
  | 73 => ⟨S1024x22x64, .f32⟩
  | 74 => ⟨S1024x22x64, .f32⟩
  | 75 => ⟨S_, .i32⟩
  | 76 => ⟨S110, .i32⟩
  | 77 => ⟨S110, .i1⟩
  | 78 => ⟨S_, .i32⟩
  | 79 => ⟨S110, .i32⟩
  | 80 => ⟨S110, .i32⟩
  | 81 => ⟨S110, .i32⟩
  | 82 => ⟨S110x1, .i32⟩
  | 83 => ⟨S1, .i32⟩
  | 84 => ⟨S_, .i32⟩
  | 85 => ⟨S110x1, .i32⟩
  | 86 => ⟨S110x1, .i1⟩
  | 87 => ⟨S1x1, .i32⟩
  | 88 => ⟨S110x1, .i32⟩
  | 89 => ⟨S110x1, .i1⟩
  | 90 => ⟨S110x1, .i1⟩
  | 91 => ⟨S_, .i1⟩
  | 92 => ⟨S110, .i1⟩
  | 93 => ⟨S1024x110x64, .f32⟩
  | 94 => ⟨S1024x110x64, .i1⟩
  | 95 => ⟨S_, .f32⟩
  | 96 => ⟨S1024x110x64, .f32⟩
  | 97 => ⟨S1024x110x64, .f32⟩
  | 98 => ⟨S110x1024x64, .f32⟩
  | 99 => ⟨S_, .f32⟩
  | 100 => ⟨S22x1024x64, .f32⟩
  | 101 => ⟨S110x1, .i32⟩
  | 102 => ⟨S22x1024x64, .f32⟩
  | 103 => ⟨S1024x22x64, .f32⟩
  | 104 => ⟨S1x22x1, .f32⟩
  | 105 => ⟨S1024x22x64, .f32⟩
  | 106 => ⟨S1024x22x64, .f32⟩
  | 107 => ⟨S1x1x64, .f32⟩
  | 108 => ⟨S1024x22x64, .f32⟩
  | 109 => ⟨S1024x22x64, .f32⟩
  | 110 => ⟨S1024x22x64, .f32⟩
  | 111 => ⟨S1024x22x64, .f32⟩
  | 112 => ⟨S1024x22x64, .f32⟩
  | 113 => ⟨S1024x22x64, .f32⟩
  | 114 => ⟨S_, .f32⟩
  | 115 => ⟨S1024x22x64, .f32⟩
  | 116 => ⟨S1024x22x64, .f32⟩
  | 117 => ⟨S_, .f32⟩
  | 118 => ⟨S1024x22x64, .f32⟩
  | 119 => ⟨S1024x22x64, .f32⟩
  | 120 => ⟨S1024x22x64, .f32⟩
  | 121 => ⟨S1024x22x64, .f32⟩
  | 122 => ⟨S1024x22x64, .f32⟩
  | 123 => ⟨S1024x22x64, .f32⟩
  | 124 => ⟨S_, .f32⟩
  | 125 => ⟨S1024x22x64, .f32⟩
  | 126 => ⟨S1024x22x64, .f32⟩
  | 127 => ⟨S_, .f32⟩
  | _ => ⟨S1024x256, .f32⟩

abbrev hbmTy0_1 (i : Nat) : BufTy := match i % 128 with
  | 0 => ⟨S1024x22x64, .f32⟩
  | 1 => ⟨S1024x22x64, .f32⟩
  | 2 => ⟨S1024x22x64, .f32⟩
  | 3 => ⟨S1024x22x64, .f32⟩
  | 4 => ⟨S1024x22x64, .f32⟩
  | 5 => ⟨S1024x22x64, .f32⟩
  | 6 => ⟨S_, .f32⟩
  | 7 => ⟨S1024x22x64, .f32⟩
  | 8 => ⟨S1024x22x64, .f32⟩
  | 9 => ⟨S1024x22x64, .f32⟩
  | 10 => ⟨S1024x22x64, .f32⟩
  | 11 => ⟨S1024x22x64, .f32⟩
  | 12 => ⟨S1x1024x22x64, .f32⟩
  | 13 => ⟨S_, .i32⟩
  | 14 => ⟨S_, .i32⟩
  | 15 => ⟨S_, .i32⟩
  | 16 => ⟨S20x1024x22x64, .f32⟩
  | 17 => ⟨S_, .i32⟩
  | 18 => ⟨S_, .i32⟩
  | 19 => ⟨S1024x20x22x64, .f32⟩
  | 20 => ⟨S1024x28160, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_v1 : Ref sig .tc := ⟨.hbm, 16, rfl⟩
abbrev main_c_1 : Ref sig .tc := ⟨.hbm, 17, rfl⟩
abbrev main_v2 : Ref sig .tc := ⟨.hbm, 18, rfl⟩
abbrev main_v3 : Ref sig .tc := ⟨.hbm, 19, rfl⟩
abbrev main_c_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_3 : Ref sig .tc := ⟨.hbm, 25, rfl⟩
abbrev main_v8 : Ref sig .tc := ⟨.hbm, 26, rfl⟩
abbrev main_v9 : Ref sig .tc := ⟨.hbm, 27, rfl⟩
abbrev main_c_4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_c_7 : Ref sig .tc := ⟨.hbm, 57, rfl⟩
abbrev main_v35_0 : Ref sig .tc := ⟨.hbm, 58, rfl⟩
abbrev main_v35_1 : Ref sig .tc := ⟨.hbm, 59, rfl⟩
abbrev main_v35_2 : Ref sig .tc := ⟨.hbm, 60, rfl⟩
abbrev main_v35_3 : Ref sig .tc := ⟨.hbm, 61, rfl⟩
abbrev main_v35_4 : Ref sig .tc := ⟨.hbm, 62, rfl⟩
abbrev main_v35_5 : Ref sig .tc := ⟨.hbm, 63, rfl⟩
abbrev main_v35_6 : Ref sig .tc := ⟨.hbm, 64, rfl⟩
abbrev main_v35_7 : Ref sig .tc := ⟨.hbm, 65, rfl⟩
abbrev main_v35_8 : Ref sig .tc := ⟨.hbm, 66, rfl⟩
abbrev main_v35_9 : Ref sig .tc := ⟨.hbm, 67, rfl⟩
abbrev main_v35_10 : Ref sig .tc := ⟨.hbm, 68, rfl⟩
abbrev main_while0c_c_18 : Ref sig .tc := ⟨.hbm, 69, rfl⟩
abbrev main_while0c_v38 : Ref sig .tc := ⟨.hbm, 70, rfl⟩
abbrev main_while0b_v38 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_c_18 : Ref sig .tc := ⟨.hbm, 75, rfl⟩
abbrev main_while0b_v42 : Ref sig .tc := ⟨.hbm, 76, rfl⟩
abbrev main_while0b_v43 : Ref sig .tc := ⟨.hbm, 77, rfl⟩
abbrev main_while0b_c_19 : Ref sig .tc := ⟨.hbm, 78, rfl⟩
abbrev main_while0b_v44 : Ref sig .tc := ⟨.hbm, 79, rfl⟩
abbrev main_while0b_v45 : Ref sig .tc := ⟨.hbm, 80, rfl⟩
abbrev main_while0b_v46 : Ref sig .tc := ⟨.hbm, 81, rfl⟩
abbrev main_while0b_v47 : Ref sig .tc := ⟨.hbm, 82, rfl⟩
abbrev main_while0b_c_20 : Ref sig .tc := ⟨.hbm, 83, rfl⟩
abbrev main_while0b_c_21 : Ref sig .tc := ⟨.hbm, 84, rfl⟩
abbrev main_while0b_v48 : Ref sig .tc := ⟨.hbm, 85, rfl⟩
abbrev main_while0b_v49 : Ref sig .tc := ⟨.hbm, 86, rfl⟩
abbrev main_while0b_v50 : Ref sig .tc := ⟨.hbm, 87, rfl⟩
abbrev main_while0b_v51 : Ref sig .tc := ⟨.hbm, 88, rfl⟩
abbrev main_while0b_v52 : Ref sig .tc := ⟨.hbm, 89, rfl⟩
abbrev main_while0b_v53 : Ref sig .tc := ⟨.hbm, 90, rfl⟩
abbrev main_while0b_c_22 : Ref sig .tc := ⟨.hbm, 91, rfl⟩
abbrev main_while0b_v54 : Ref sig .tc := ⟨.hbm, 92, rfl⟩
abbrev main_while0b_v55 : Ref sig .tc := ⟨.hbm, 93, rfl⟩
abbrev main_while0b_v56 : Ref sig .tc := ⟨.hbm, 94, rfl⟩
abbrev main_while0b_cst_23 : Ref sig .tc := ⟨.hbm, 95, rfl⟩
abbrev main_while0b_v57 : Ref sig .tc := ⟨.hbm, 96, rfl⟩
abbrev main_while0b_v58 : Ref sig .tc := ⟨.hbm, 97, rfl⟩
abbrev main_while0b_v59 : Ref sig .tc := ⟨.hbm, 98, rfl⟩
abbrev main_while0b_cst_24 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_v63 : Ref sig .tc := ⟨.hbm, 103, rfl⟩
abbrev main_while0b_v64 : Ref sig .tc := ⟨.hbm, 104, rfl⟩
abbrev main_while0b_v65 : Ref sig .tc := ⟨.hbm, 105, rfl⟩
abbrev main_while0b_v66 : Ref sig .tc := ⟨.hbm, 106, rfl⟩
abbrev main_while0b_v67 : Ref sig .tc := ⟨.hbm, 107, rfl⟩
abbrev main_while0b_v68 : Ref sig .tc := ⟨.hbm, 108, rfl⟩
abbrev main_while0b_v69 : Ref sig .tc := ⟨.hbm, 109, rfl⟩
abbrev main_while0b_v70 : Ref sig .tc := ⟨.hbm, 110, rfl⟩
abbrev main_while0b_v71 : Ref sig .tc := ⟨.hbm, 111, rfl⟩
abbrev main_while0b_v72 : Ref sig .tc := ⟨.hbm, 112, rfl⟩
abbrev main_while0b_v73 : Ref sig .tc := ⟨.hbm, 113, rfl⟩
abbrev main_while0b_cst_25 : Ref sig .tc := ⟨.hbm, 114, rfl⟩
abbrev main_while0b_v74 : Ref sig .tc := ⟨.hbm, 115, rfl⟩
abbrev main_while0b_v75 : Ref sig .tc := ⟨.hbm, 116, rfl⟩
abbrev main_while0b_cst_26 : Ref sig .tc := ⟨.hbm, 117, rfl⟩
abbrev main_while0b_v76 : Ref sig .tc := ⟨.hbm, 118, rfl⟩
abbrev main_while0b_v77 : Ref sig .tc := ⟨.hbm, 119, rfl⟩
abbrev main_while0b_v78 : Ref sig .tc := ⟨.hbm, 120, rfl⟩
abbrev main_while0b_v79 : Ref sig .tc := ⟨.hbm, 121, rfl⟩
abbrev main_while0b_v80 : Ref sig .tc := ⟨.hbm, 122, rfl⟩
abbrev main_while0b_v81 : Ref sig .tc := ⟨.hbm, 123, rfl⟩
abbrev main_while0b_cst_27 : Ref sig .tc := ⟨.hbm, 124, rfl⟩
abbrev main_while0b_v82 : Ref sig .tc := ⟨.hbm, 125, rfl⟩
abbrev main_while0b_v83 : Ref sig .tc := ⟨.hbm, 126, rfl⟩
abbrev main_while0b_cst_28 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_v87 : Ref sig .tc := ⟨.hbm, 131, rfl⟩
abbrev main_while0b_v88 : Ref sig .tc := ⟨.hbm, 132, rfl⟩
abbrev main_while0b_v89 : Ref sig .tc := ⟨.hbm, 133, rfl⟩
abbrev main_while0b_cst_29 : Ref sig .tc := ⟨.hbm, 134, rfl⟩
abbrev main_while0b_v90 : Ref sig .tc := ⟨.hbm, 135, rfl⟩
abbrev main_while0b_v91 : Ref sig .tc := ⟨.hbm, 136, rfl⟩
abbrev main_while0b_v92 : Ref sig .tc := ⟨.hbm, 137, rfl⟩
abbrev main_while0b_v93 : Ref sig .tc := ⟨.hbm, 138, rfl⟩
abbrev main_while0b_v94 : Ref sig .tc := ⟨.hbm, 139, rfl⟩
abbrev main_while0b_call1_v0 : Ref sig .tc := ⟨.hbm, 140, rfl⟩
abbrev main_while0b_call1_c : Ref sig .tc := ⟨.hbm, 141, rfl⟩
abbrev main_while0b_call1_c_0 : Ref sig .tc := ⟨.hbm, 142, rfl⟩
abbrev main_while0b_call1_c_1 : Ref sig .tc := ⟨.hbm, 143, rfl⟩
abbrev main_while0b_v95 : Ref sig .tc := ⟨.hbm, 144, rfl⟩
abbrev main_while0b_c_30 : Ref sig .tc := ⟨.hbm, 145, rfl⟩
abbrev main_while0b_v96 : Ref sig .tc := ⟨.hbm, 146, rfl⟩
abbrev main_v36 : Ref sig .tc := ⟨.hbm, 147, rfl⟩
abbrev main_v37 : Ref sig .tc := ⟨.hbm, 148, rfl⟩

abbrev nD : Nat := 1
abbrev τ : Topo := Topo.v7x

variable {F : FTy → Type} [FloatOps F]

abbrev main_while0_count : Scf.Loop 32 := ⟨0#32, 20#32, 1#32⟩
-- ==== Proof.Facts.lean ====
/- The shape facts that the precondition's operations state. -/
module

public import proofs.«01_k».proof.Pre_the_graph
public import Idealize.ShloMosaic.Lib.Decide
public import Idealize.ShloMosaic.Lib.ReduceAll

@[expose] public section

noncomputable section

namespace Cert.Proof

open Idealize.ShloMosaic

/-- Every shape relation the precondition's operations state holds. -/
instance preFacts : Cert.Pre_the_graph.Facts where
  reducesTo_S110_S_d0 := by decide
  h_S_ := by decide
  bcast_S_S64x64 := by decide
  reducesTo_S64x64_S_d0_1 := by decide
  bcast_S_S64 := by decide
  reducesTo_S64_S_d0 := by decide

end Cert.Proof

end
-- ==== Proof.Frames.lean ====
/- The frame claims and the ledger of the named constants. -/
module

public import proofs.«01_k».proof.Defs
public import proofs.«01_k».proof.Proof.Facts
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof.Frames

open Idealize.ShloMosaic Idealize.SL.Sem

/-- The kernel ends on every weakly fair run, with its arguments as they were and every counter at zero. -/
theorem kernel : Cert.quiescent_Kernel := fun m ρ _ => Cert.Kernel.Gen.frame m ρ

/-- So does the idealized kernel. -/
theorem kernelIdeal : Cert.quiescent_KernelIdeal := fun m ρ _ => Cert.KernelIdeal.Gen.frame m ρ

/-- So does the idealized kernel from a memory that meets the precondition. -/
theorem kernelIdeal_pre : Cert.quiescent_KernelIdeal_pre_the_graph := fun m ρ _ => Cert.KernelIdeal.Gen.frame m ρ

/-- So does the reference. -/
theorem referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- So does the reference from a memory that meets the precondition. -/
theorem referenceIdeal_pre : Cert.quiescent_ReferenceIdeal_pre_the_graph := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- Each named constant is the value the table gives it. -/
theorem preserves : Cert.preserves_Kernel_KernelIdeal :=
  ⟨IdealRules.named_const.statement Cert.KernelIdeal.κ "rsqrt13" .f32 0x3E8E00D5#32 (((Real.sqrt 13)⁻¹ : ℝ) : EReal) rfl,
    IdealRules.named_const.statement Cert.KernelIdeal.κ "rsqrt5" .f32 0x3EE4F92E#32 (((Real.sqrt 5)⁻¹ : ℝ) : EReal) rfl,
    IdealRules.named_const.statement Cert.KernelIdeal.κ "half_rsqrt13" .f32 0x3E0E00D5#32 (((Real.sqrt 52)⁻¹ : ℝ) : EReal) rfl,
    IdealRules.named_const.statement Cert.KernelIdeal.κ "half_rsqrt5" .f32 0x3E64F92E#32 (((Real.sqrt 20)⁻¹ : ℝ) : EReal) rfl⟩

end Cert.Proof.Frames

end
-- ==== Proof.RefRun.lean ====
/- The reference's run, told as a sequence of loop states: the contents of the carried buffers before each trip are the
   states of `Gen/ReferenceIdeal/Step.lean`, and the result is read off state 20. -/
module

public import proofs.«01_k».proof.Proof.Gen.ReferenceIdeal.Run
public import proofs.«01_k».proof.Proof.Gen.ReferenceIdeal.Step

@[expose] public section

set_option maxRecDepth 16384

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The buffers of a valuation before trip `j` agree with the loop state `s`. -/
structure Agrees (V : Valuation τ sig (Elt F)) (s : State F) (j : ℕ) : Prop where
  h : V (Proc.devRef .tc main_v35_9) = s.main_v35_9
  outs : V (Proc.devRef .tc main_v35_10) = s.main_v35_10
  w : V (Proc.devRef .tc main_v35_0) = s.main_v35_0
  norm : V (Proc.devRef .tc main_v35_1) = s.main_v35_1
  src : V (Proc.devRef .tc main_v35_2) = s.main_v35_2
  dst : V (Proc.devRef .tc main_v35_3) = s.main_v35_3
  bias : V (Proc.devRef .tc main_v35_4) = s.main_v35_4
  xr : V (Proc.devRef .tc main_v35_5) = s.main_v35_5
  xz : V (Proc.devRef .tc main_v35_6) = s.main_v35_6
  xh : V (Proc.devRef .tc main_v35_7) = s.main_v35_7
  trip : V (Proc.devRef .tc main_v35_8) = constantI S_ 32 (BitVec.ofNat 32 j)

variable {V : Valuation τ sig (Elt F)} {s : State F} {j : ℕ}

/-- The wrapped source index. -/
theorem idx_eq (a : Agrees V s j) : res_main_while0b_v47 V = b11 j s := by
  unfold res_main_while0b_v47 b11 b10 b9 b8 b7 b6 b5 b4
  rw [a.src]

/-- The graph convolution. -/
theorem conv_eq (a : Agrees V s j) : res_main_while0b_v69 V = b38 j s := by
  unfold res_main_while0b_v69 b38 b37 b36 b35 b34 b33 b32 b31 b30 b29 b28 b27 b26 b25 b24 b23 b22 b21 b20 b19 b18 b17
    b16 b15 b14 b13 b12 b3 b2 b1 b0
  rw [idx_eq a, a.h, a.w, a.norm, a.dst, a.bias]

/-- The update gate. -/
theorem gate_eq (a : Agrees V s j) : res_main_while0b_v85 V = b58 j s := by
  unfold res_main_while0b_v85 b58 b57 b56 b55 b54 b53 b52 b51 b50 b49
  rw [conv_eq a, a.xz]

/-- The new hidden state. -/
theorem hidden_eq (a : Agrees V s j) : res_main_while0b_v94 V = b68 j s := by
  unfold res_main_while0b_v94 b68 b67 b66 b65 b64 b63 b62 b61 b60 b59 b48 b47 b46 b45 b44 b43 b42 b41 b40 b39
  rw [conv_eq a, gate_eq a, a.h, a.xr, a.xh]

/-- The stacked outputs. -/
theorem outs_eq (a : Agrees V s j) : Cert.ReferenceIdeal.Value.step_main_v35_10 V = b73 j s := by
  unfold Cert.ReferenceIdeal.Value.step_main_v35_10 b73 b72 b71 b70 b69
  rw [hidden_eq a, a.outs, a.trip]
  rfl

/-- One trip takes a valuation that agrees with a state to one that agrees with the next state. -/
theorem agrees_step (a : Agrees V s j) : Agrees (STEP V) (step j s) (j + 1) where
  h := (STEP_main_v35_9 V).trans (hidden_eq a)
  outs := (STEP_main_v35_10 V).trans (outs_eq a)
  w := (STEP_main_v35_0 V).trans a.w
  norm := (STEP_main_v35_1 V).trans a.norm
  src := (STEP_main_v35_2 V).trans a.src
  dst := (STEP_main_v35_3 V).trans a.dst
  bias := (STEP_main_v35_4 V).trans a.bias
  xr := (STEP_main_v35_5 V).trans a.xr
  xz := (STEP_main_v35_6 V).trans a.xz
  xh := (STEP_main_v35_7 V).trans a.xh
  trip := (STEP_main_v35_8 V).trans (by
    unfold step_main_v35_8
    rw [a.trip]
    funext i
    exact (BitVec.ofNat_add j 1).symm)

variable (m : (ℓ : Loc nD τ sig) → Buf (Elt F) ℓ) (ρ : Dev nD → PrngReg)

/-- The state before the first trip, from the launch memory. -/
def start (c : Dev nD) : State F :=
  init (m (c.tc.loc main_arg7)) (m (c.tc.loc main_arg9)) (m (c.tc.loc main_arg10)) (m (c.tc.loc main_arg8))
    (m (c.tc.loc main_arg0)) (m (c.tc.loc main_arg1)) (m (c.tc.loc main_arg2)) (m (c.tc.loc main_arg3))
    (m (c.tc.loc main_arg4)) (m (c.tc.loc main_arg5)) (m (c.tc.loc main_arg6))

/-- The state before trip `n`. -/
def states (c : Dev nD) : ℕ → State F
  | 0 => start m c
  | n + 1 => step n (states c n)

set_option maxRecDepth 65536 in
set_option maxHeartbeats 1000000 in
/-- The operations before the loop leave the first state. -/
theorem agrees_zero (c : Dev nD) : Agrees (entryContents preI m c) (start m c) 0 := by
  constructor <;> (simp only [entryContents, afterL_cons, afterL_nil]; after_reads_simp) <;> rfl

/-- Before trip `n` the buffers agree with state `n`. -/
theorem agrees_at (c : Dev nD) (n : ℕ) : Agrees (STEP^[n] (entryContents preI m c)) (states m c n) n := by
  induction n with
  | zero => exact agrees_zero m c
  | succ n ih =>
    rw [Function.iterate_succ_apply']
    exact agrees_step ih

/-- The result, read off the last state. -/
theorem result_eq (c : Dev nD) : out_main_v37 (STEP^[20] (entryContents preI m c)) = R_main_v37 (states m c 20) := by
  unfold out_main_v37 R_main_v37
  rw [(agrees_at m c 20).outs]
  rfl

end Cert.Proof.RefRun

end
-- ==== Proof.Graph.lean ====
module

public import proofs.«01_k».proof.Pre_the_graph
public import Idealize.ShloMosaic.Lib.Pointwise

/-! The graph: its 110 directed edges, the neighbours of each node, and sums over the edges that
enter a node as sums over its neighbours. -/

@[expose] public section

set_option maxRecDepth 16384

noncomputable section

namespace Cert.Proof.Graph

open Idealize.ShloMosaic

/-- The node an edge leaves. -/
def src (e : Fin 110) : Fin 22 := Fin.ofNat 22 (Cert.Pre_the_graph.lit0 e).toNat

/-- The node an edge enters. -/
def dst (e : Fin 110) : Fin 22 := Fin.ofNat 22 (Cert.Pre_the_graph.lit1 e).toNat

/-- Every source word is the number of its node. -/
theorem lit0_eq (e : Fin 110) : Cert.Pre_the_graph.lit0 e = BitVec.ofNat 32 (src e).val := by
  revert e; decide +kernel

/-- Every target word is the number of its node. -/
theorem lit1_eq (e : Fin 110) : Cert.Pre_the_graph.lit1 e = BitVec.ofNat 32 (dst e).val := by
  revert e; decide +kernel

/-- The edges, source first, in the order of the edge arrays. -/
def edges : List (Fin 22 × Fin 22) := [
  (0, 1), (0, 2), (0, 3), (0, 4), (0, 5), (0, 6), (0, 7), (0, 8), (0, 9), (0, 10), (0, 11),
  (0, 12), (0, 15), (1, 0), (1, 4), (1, 7), (1, 10), (2, 0), (2, 5), (2, 8), (2, 11), (3, 0),
  (3, 6), (3, 9), (3, 12), (3, 15), (4, 0), (4, 1), (4, 7), (4, 10), (5, 0), (5, 2), (5, 8),
  (5, 11), (6, 0), (6, 3), (6, 9), (6, 12), (6, 15), (7, 0), (7, 1), (7, 4), (7, 10), (8, 0),
  (8, 2), (8, 5), (8, 11), (9, 0), (9, 3), (9, 6), (9, 12), (9, 13), (9, 14), (9, 15),
  (9, 16), (9, 17), (9, 18), (9, 19), (9, 20), (9, 21), (10, 0), (10, 1), (10, 4), (10, 7),
  (11, 0), (11, 2), (11, 5), (11, 8), (12, 0), (12, 3), (12, 6), (12, 9), (12, 15), (13, 9),
  (13, 16), (13, 18), (13, 20), (14, 9), (14, 17), (14, 19), (14, 21), (15, 0), (15, 3),
  (15, 6), (15, 9), (15, 12), (16, 9), (16, 13), (16, 18), (16, 20), (17, 9), (17, 14),
  (17, 19), (17, 21), (18, 9), (18, 13), (18, 16), (18, 20), (19, 9), (19, 14), (19, 17),
  (19, 21), (20, 9), (20, 13), (20, 16), (20, 18), (21, 9), (21, 14), (21, 17), (21, 19)]

/-- The neighbours of each node. -/
def nbrs : Fin 22 → List (Fin 22) := ![
  [1, 2, 3, 4, 5, 6, 7, 8, 9, 10, 11, 12, 15], [0, 4, 7, 10], [0, 5, 8, 11],
  [0, 6, 9, 12, 15], [0, 1, 7, 10], [0, 2, 8, 11], [0, 3, 9, 12, 15], [0, 1, 4, 10],
  [0, 2, 5, 11], [0, 3, 6, 12, 13, 14, 15, 16, 17, 18, 19, 20, 21], [0, 1, 4, 7],
  [0, 2, 5, 8], [0, 3, 6, 9, 15], [9, 16, 18, 20], [9, 17, 19, 21], [0, 3, 6, 9, 12],
  [9, 13, 18, 20], [9, 14, 19, 21], [9, 13, 16, 20], [9, 14, 17, 21], [9, 13, 16, 18],
  [9, 14, 17, 19]]

/-- The list of the edges is the edge arrays read in order. -/
theorem edges_eq : List.ofFn (fun e => (src e, dst e)) = edges := by decide +kernel

/-- The sources of the edges entering a node are its neighbours. -/
theorem nbrs_eq (n : Fin 22) : (edges.filter (fun p => p.2 = n)).map Prod.fst = nbrs n := by
  revert n; decide +kernel

/-- A sum over a list of the entries that meet a condition is the sum over the filtered list. -/
theorem sum_filter_list (n : Fin 22) (f : Fin 22 → ℝ) (l : List (Fin 22 × Fin 22)) :
    (l.map (fun p => if p.2 = n then f p.1 else 0)).sum
      = (((l.filter (fun p => p.2 = n)).map Prod.fst).map f).sum := by
  induction l with
  | nil => rfl
  | cons p l ih =>
    by_cases h : p.2 = n <;> simp [h, ih]

/-- The sum over the edges entering a node is the sum over its neighbours. -/
theorem sum_edges (n : Fin 22) (f : Fin 22 → ℝ) :
    (∑ e : Fin 110, if dst e = n then f (src e) else 0) = ((nbrs n).map f).sum := by
  rw [← nbrs_eq, ← sum_filter_list, ← edges_eq, List.map_ofFn, List.sum_ofFn]
  rfl

end Cert.Proof.Graph
end
-- ==== Proof.Consts.lean ====
module

public import proofs.«01_k».proof.Proof.Graph
public import proofs.«01_k».proof.Proof.Gen.KernelIdeal.Value

/-! The real values of the constants both programs use. -/

@[expose] public section

noncomputable section

namespace Cert.Proof.Consts

open Idealize.ShloMosaic

/-- The word of one half. -/
theorem c_half : Ideal.ofBits .f32 0x3F000000#32 = ((1 / 2 : ℝ) : EReal) := by
  simp [Ideal.ofBits, Ideal.ieee, -EReal.coe_mul]; norm_num

/-- The word of one quarter. -/
theorem c_quarter : Ideal.ofBits .f32 0x3E800000#32 = ((1 / 4 : ℝ) : EReal) := by
  simp [Ideal.ofBits, Ideal.ieee, -EReal.coe_mul]; norm_num

/-- The word of three. -/
theorem c_three : Ideal.ofBits .f32 0x40400000#32 = ((3 : ℝ) : EReal) := by
  simp [Ideal.ofBits, Ideal.ieee, -EReal.coe_mul]; norm_num

/-- The word of minus one half. -/
theorem c_mhalf : Ideal.ofBits .f32 0xBF000000#32 = ((-(1 / 2) : ℝ) : EReal) := by
  simp [Ideal.ofBits, Ideal.ieee, -EReal.coe_mul]; norm_num

/-- The word of infinity. -/
theorem c_top : Ideal.ofBits .f32 0x7F800000#32 = (⊤ : EReal) := by
  simp [Ideal.ofBits, Ideal.ieee]

/-- The named constant of the inverse root of the larger degree. -/
theorem n_13 : Named.named (F := Ideal) Cert.KernelIdeal.κ "rsqrt13" (φ := .f32) 0x3E8E00D5#32
    = (((Real.sqrt 13)⁻¹ : ℝ) : EReal) :=
  IdealRules.named_const.ideal_named_scalar _ _ _ _ rfl

/-- The named constant of the inverse root of the middle degree. -/
theorem n_5 : Named.named (F := Ideal) Cert.KernelIdeal.κ "rsqrt5" (φ := .f32) 0x3EE4F92E#32
    = (((Real.sqrt 5)⁻¹ : ℝ) : EReal) :=
  IdealRules.named_const.ideal_named_scalar _ _ _ _ rfl

/-- Half the inverse root of four times a number is a quarter of the way down. -/
theorem half_root (a b : ℝ) (h : b = 4 * a) (ha : 0 ≤ a) : (Real.sqrt b)⁻¹ = (Real.sqrt a)⁻¹ / 2 := by
  have h4 : Real.sqrt 4 = 2 := by
    rw [show (4 : ℝ) = 2 * 2 by norm_num, Real.sqrt_mul_self (by norm_num)]
  rw [h, Real.sqrt_mul (by norm_num), h4, mul_inv]
  ring

/-- The named constant of half the inverse root of the larger degree. -/
theorem n_h13 : Named.named (F := Ideal) Cert.KernelIdeal.κ "half_rsqrt13" (φ := .f32) 0x3E0E00D5#32
    = (((Real.sqrt 13)⁻¹ / 2 : ℝ) : EReal) := by
  rw [← half_root 13 52 (by norm_num) (by norm_num)]
  exact IdealRules.named_const.ideal_named_scalar _ _ _ _ rfl

/-- The named constant of half the inverse root of the middle degree. -/
theorem n_h5 : Named.named (F := Ideal) Cert.KernelIdeal.κ "half_rsqrt5" (φ := .f32) 0x3E64F92E#32
    = (((Real.sqrt 5)⁻¹ / 2 : ℝ) : EReal) := by
  rw [← half_root 5 20 (by norm_num) (by norm_num)]
  exact IdealRules.named_const.ideal_named_scalar _ _ _ _ rfl

/-- The inverse root of the degree of each node. -/
def nrm : Fin 22 → ℝ := ![
  (Real.sqrt 13)⁻¹, 1 / 2, 1 / 2, (Real.sqrt 5)⁻¹, 1 / 2, 1 / 2, (Real.sqrt 5)⁻¹, 1 / 2, 1 / 2,
  (Real.sqrt 13)⁻¹, 1 / 2, 1 / 2, (Real.sqrt 5)⁻¹, 1 / 2, 1 / 2, (Real.sqrt 5)⁻¹, 1 / 2, 1 / 2,
  1 / 2, 1 / 2, 1 / 2, 1 / 2]

/-- The neighbour sum of the normed rows of a node, normed again. -/
def agg (f : Fin 22 → ℝ) (n : Fin 22) : ℝ :=
  ((Graph.nbrs n).map (fun m => f m * nrm m)).sum * nrm n

/-- A finite sum of reals is the real of the sum. -/
theorem coe_sum {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

end Cert.Proof.Consts
end
-- ==== Proof.Domain.lean ====
module

public import proofs.«01_k».proof.Proof.Facts
public import proofs.«01_k».proof.Proof.Consts

/-! What the precondition says of the arguments. -/

@[expose] public section

set_option maxRecDepth 16384

noncomputable section

namespace Cert.Proof.Domain

open Cert.Pre_the_graph Idealize.ShloMosaic Cert.Proof.Graph Cert.Proof.Consts

/-- Only the empty index indexes a scalar. -/
instance : Subsingleton S_.Idx := ⟨fun _ _ => funext fun k => k.elim0⟩

/-- A number whose absolute value is below plus infinity is real. -/
theorem real_of_abs (x : EReal) (h : Ideal.cmp .olt (max x (-x)) ⊤ = 1#1) : x = ((x.toReal : ℝ) : EReal) := by
  have hlt : max x (-x) < ⊤ := by
    by_contra hn
    rw [show Ideal.cmp .olt (max x (-x)) ⊤ = BitVec.ofBool (decide (max x (-x) < ⊤)) from rfl, decide_eq_false hn] at h
    exact absurd h (by decide)
  refine (EReal.coe_toReal (fun e => ?_) fun e => ?_).symm
  · rw [e] at hlt
    exact absurd (lt_of_le_of_lt (le_max_left _ _) hlt) (lt_irrefl _)
  · rw [e] at hlt
    exact absurd (lt_of_le_of_lt (le_max_right _ _) hlt) (by simp)

/-- Equal words are equal. -/
theorem eq_of_cmpi (x y : BitVec 32) (h : IntOp.cmpi .eq x y = 1#1) : x = y := by
  by_contra hn
  rw [show IntOp.cmpi .eq x y = BitVec.ofBool (decide (x = y)) from rfl, decide_eq_false hn] at h
  exact absurd h (by decide)

variable (x0 : FVec Ideal S1024x256 .f32) (x1 : FVec Ideal S64x256 .f32) (x2 : FVec Ideal S64 .f32)
  (x3 : FVec Ideal S64x256 .f32) (x4 : FVec Ideal S64 .f32) (x5 : FVec Ideal S64x256 .f32) (x6 : FVec Ideal S64 .f32)
  (x7 : FVec Ideal S64x64 .f32) (x8 : FVec Ideal S64 .f32) (x9 x10 : IVec S110 32)

/-- The edges are the graph's, and the weights and the bias of the convolution are real. -/
theorem reads (h : fn (F := Ideal) x0 x1 x2 x3 x4 x5 x6 x7 x8 x9 x10 = fun _ => 1#1) :
    (∀ e, x9 (ix1 e) = BitVec.ofNat 32 (src e).val) ∧ (∀ e, x10 (ix1 e) = BitVec.ofNat 32 (dst e).val) ∧
    (∀ k f, x7 (ix2 k f) = (((x7 (ix2 k f)).toReal : ℝ) : EReal)) ∧
    (∀ f, x8 (ix1 f) = (((x8 (ix1 f)).toReal : ℝ) : EReal)) := by
  have h0 := congrFun h ix0
  unfold fn at h0
  obtain ⟨h1, hb⟩ := IntOp.andi_eq_one.1 h0
  obtain ⟨h2, hw⟩ := IntOp.andi_eq_one.1 h1
  obtain ⟨hs, hd⟩ := IntOp.andi_eq_one.1 h2
  refine ⟨fun e => ?_, fun e => ?_, fun k f => ?_, fun f => ?_⟩
  · have := eq_of_cmpi _ _ (Host.reduce_andi_all _ _ _ _ _ hs (ix1 e))
    rw [this, ← lit0_eq]
    exact congrArg lit0 (Fin.ext (Shape.rowMajor_val_one (d := ![110]) (ix1 e)))
  · have := eq_of_cmpi _ _ (Host.reduce_andi_all _ _ _ _ _ hd (ix1 e))
    rw [this, ← lit1_eq]
    exact congrArg lit1 (Fin.ext (Shape.rowMajor_val_one (d := ![110]) (ix1 e)))
  · refine real_of_abs _ ?_
    rw [← c_top]
    exact Host.reduce_andi_all _ _ _ _ _ hw (ix2 k f)
  · refine real_of_abs _ ?_
    rw [← c_top]
    exact Host.reduce_andi_all _ _ _ _ _ hb (ix1 f)

end Cert.Proof.Domain
end
-- ==== Proof.KVec.lean ====
module

public import proofs.«01_k».proof.Proof.Gen.KernelIdeal.Value
public import Idealize.ShloMosaic.Lib.Pointwise

/-! The vectors one step of the kernel computes, written once for every node: the graph
convolution of all nodes (`conv`), and the new hidden rows of one node (`nodeVec`). -/

@[expose] public section

set_option maxRecDepth 16384

noncomputable section

namespace Cert.Proof.KVec

open Cert.KernelIdeal Cert.KernelIdeal.Gen Idealize.ShloMosaic Idealize.ShloMosaic.TcCoe Idealize.SL.Sem

variable {F : FTy → Type} [FloatOps F] [Named F]

/-- The convolved rows of all nodes, from the hidden rows `v3` and the paired weights `g2`. -/
def conv (v3 : Vec F S22x512x128 .f32) (g2 : Vec F S128x128 .f32) : FVec F S22x512x128 .f32 :=
  let r_5 := k0_pay10 v3
  let r_6 := k0_pay11 v3
  let r_7 := k0_pay12 v3
  let r_8 := k0_pay13 v3
  let r_9 := k0_pay14 v3
  let r_10 := k0_pay15 v3
  let r_11 := k0_pay16 v3
  let r_12 := k0_pay17 v3
  let r_13 := k0_pay18 v3
  let r_14 := k0_pay19 v3
  let r_15 := k0_pay20 v3
  let r_16 := k0_pay21 v3
  let r_17 := k0_pay22 v3
  let r_18 := k0_pay23 v3
  let r_19 := k0_pay24 v3
  let r_20 := k0_pay25 v3
  let r_21 := k0_pay26 v3
  let r_22 := k0_pay27 v3
  let r_23 := k0_pay28 v3
  let r_24 := k0_pay29 v3
  let r_25 := k0_pay30 v3
  let r_26 := k0_pay31 v3
  let r_27 := k0_pay32 r_5 r_7 r_10 r_13 r_16
  let r_28 := k0_pay33 r_5 r_6 r_9 r_12 r_15
  let r_29 := k0_pay34 r_5 r_8 r_11 r_14 r_17 r_20
  let r_30 := k0_pay35 v3 r_14 r_19 r_22
  let r_31 := k0_pay36 v3 r_14 r_18 r_21 r_23
  let r_32 := k0_pay37 r_5 r_6 r_7 r_8 r_9 r_10 r_11 r_12 r_13 r_14 r_15 r_16 r_17 r_20
  let r_33 := k0_pay38 r_6 r_28
  let r_34 := k0_pay39 r_7 r_27
  let r_35 := k0_pay40 r_8 r_29
  let r_36 := k0_pay41 r_9 r_28
  let r_37 := k0_pay42 r_10 r_27
  let r_38 := k0_pay43 r_11 r_29
  let r_39 := k0_pay44 r_12 r_28
  let r_40 := k0_pay45 r_13 r_27
  let r_41 := k0_pay46 r_14 r_29 r_30 r_31
  let r_42 := k0_pay47 r_15 r_28
  let r_43 := k0_pay48 r_16 r_27
  let r_44 := k0_pay49 r_17 r_29
  let r_45 := k0_pay50 r_18 r_31
  let r_46 := k0_pay51 r_19 r_30
  k0_pay53 r_20 r_21 r_22 r_23 r_24 r_25 r_26 r_29 r_30 r_31 r_32 r_33 r_34 r_35 r_36 r_37 r_38 r_39
    r_40 r_41 r_42 r_43 r_44 r_45 r_46 k0_pay52 g2

/-- The new hidden rows of node `n`: from the hidden rows `v3`, the packed input rows `v6`, the
half bias `v11` and the convolved rows `v232`. -/
def nodeVec (n : ℕ) (hs : S22x512x128.Slices ![n, 0, 0] S1x512x128)
    (v3 : Vec F S22x512x128 .f32) (v6 : Vec F S512x384 .f32) (v4 : Vec F S1x128 .f32)
    (v232 : FVec F S22x512x128 .f32) : FVec F S512x128 .f32 :=
  let v7 := k0_pay6 v6
  let v8 := k0_pay7 v6
  let v9 := k0_pay8 v6
  let v11 := k0_pay9 v4
  let v233 : FVec F S1x512x128 .f32 := extractStridedSlice S1x512x128 ![n, 0, 0] v232 hs
  let v234 : FVec F S512x128 .f32 := shapeCast S512x128 v233 shapeCasts_S1x512x128_S512x128
  let v235 : FVec F S512x128 .f32 := broadcastTo S512x128 v11 broadcasts_S1x128_S512x128
  let v236 := addf v234 v235
  let v238 := tanh (addf v7 v236)
  let v240 := tanh (addf v8 v236)
  let v241 := addf v9 v236
  let v242 := mulf v238 v236
  let v244 := tanh (addf v241 v242)
  let v245 : FVec F S1x512x128 .f32 := extractStridedSlice S1x512x128 ![n, 0, 0] v3 hs
  let v246 : FVec F S512x128 .f32 := shapeCast S512x128 v245 shapeCasts_S1x512x128_S512x128
  let v247 := subf v244 v246
  let v248 : FVec F S512x128 .f32 := broadcast S512x128 (Scalar.ofBits .f32 0x3F000000#32)
  let v249 := mulf v248 v247
  addf (addf v246 v249) (mulf v240 v249)

/-- The store of node `n` into the hidden scratch. -/
def hPiece (n : ℕ) (hs : S22x512x128.Slices ![n, 0, 0] S1x512x128)
    (hi : ∀ a, (![n, 0, 0] : Fin 3 → Nat) a + S1x512x128.size a ≤ S22x512x128.size a)
    (v3 : Vec F S22x512x128 .f32) (v6 : Vec F S512x384 .f32) (v4 : Vec F S1x128 .f32)
    (v232 : FVec F S22x512x128 .f32) : View.Piece (Elt F) S22x512x128 .f32 :=
  ⟨Rect.unit ![n, 0, 0] S1x512x128.size hi,
    shapeCast S1x512x128 (nodeVec n hs v3 v6 v4 v232) shapeCasts_S512x128_S1x512x128⟩

/-- The store of the first row half of node `n` into the output block. -/
def lPiece (n k : ℕ) (hs : S22x512x128.Slices ![n, 0, 0] S1x512x128)
    (hi : ∀ a, (![0, k] : Fin 2 → Nat) a + S512x64.size a ≤ S1024x1408.size a)
    (v3 : Vec F S22x512x128 .f32) (v6 : Vec F S512x384 .f32) (v4 : Vec F S1x128 .f32)
    (v232 : FVec F S22x512x128 .f32) : View.Piece (Elt F) S1024x1408 .f32 :=
  ⟨Rect.unit ![0, k] S512x64.size hi,
    extractStridedSlice S512x64 ![0, 0] (nodeVec n hs v3 v6 v4 v232) slices_S512x128_o0_0_S512x64⟩

/-- The store of the second row half of node `n` into the output block. -/
def rPiece (n k : ℕ) (hs : S22x512x128.Slices ![n, 0, 0] S1x512x128)
    (hi : ∀ a, (![512, k] : Fin 2 → Nat) a + S512x64.size a ≤ S1024x1408.size a)
    (v3 : Vec F S22x512x128 .f32) (v6 : Vec F S512x384 .f32) (v4 : Vec F S1x128 .f32)
    (v232 : FVec F S22x512x128 .f32) : View.Piece (Elt F) S1024x1408 .f32 :=
  ⟨Rect.unit ![512, k] S512x64.size hi,
    extractStridedSlice S512x64 ![0, 64] (nodeVec n hs v3 v6 v4 v232) slices_S512x128_o0_64_S512x64⟩

/-- The stores of one step into the hidden scratch, last first. -/
def hList (v3 : Vec F S22x512x128 .f32) (v6 : Vec F S512x384 .f32) (v4 : Vec F S1x128 .f32)
    (v232 : FVec F S22x512x128 .f32) : List (View.Piece (Elt F) S22x512x128 .f32) :=
  [hPiece 21 slices_S22x512x128_o21_0_0_S1x512x128 inb_S22x512x128_S1x512x128_21_0_0 v3 v6 v4 v232,
   hPiece 20 slices_S22x512x128_o20_0_0_S1x512x128 inb_S22x512x128_S1x512x128_20_0_0 v3 v6 v4 v232,
   hPiece 19 slices_S22x512x128_o19_0_0_S1x512x128 inb_S22x512x128_S1x512x128_19_0_0 v3 v6 v4 v232,
   hPiece 18 slices_S22x512x128_o18_0_0_S1x512x128 inb_S22x512x128_S1x512x128_18_0_0 v3 v6 v4 v232,
   hPiece 17 slices_S22x512x128_o17_0_0_S1x512x128 inb_S22x512x128_S1x512x128_17_0_0 v3 v6 v4 v232,
   hPiece 16 slices_S22x512x128_o16_0_0_S1x512x128 inb_S22x512x128_S1x512x128_16_0_0 v3 v6 v4 v232,
   hPiece 15 slices_S22x512x128_o15_0_0_S1x512x128 inb_S22x512x128_S1x512x128_15_0_0 v3 v6 v4 v232,
   hPiece 14 slices_S22x512x128_o14_0_0_S1x512x128 inb_S22x512x128_S1x512x128_14_0_0 v3 v6 v4 v232,
   hPiece 13 slices_S22x512x128_o13_0_0_S1x512x128 inb_S22x512x128_S1x512x128_13_0_0 v3 v6 v4 v232,
   hPiece 12 slices_S22x512x128_o12_0_0_S1x512x128 inb_S22x512x128_S1x512x128_12_0_0 v3 v6 v4 v232,
   hPiece 11 slices_S22x512x128_o11_0_0_S1x512x128 inb_S22x512x128_S1x512x128_11_0_0 v3 v6 v4 v232,
   hPiece 10 slices_S22x512x128_o10_0_0_S1x512x128 inb_S22x512x128_S1x512x128_10_0_0 v3 v6 v4 v232,
   hPiece 9 slices_S22x512x128_o9_0_0_S1x512x128 inb_S22x512x128_S1x512x128_9_0_0 v3 v6 v4 v232,
   hPiece 8 slices_S22x512x128_o8_0_0_S1x512x128 inb_S22x512x128_S1x512x128_8_0_0 v3 v6 v4 v232,
   hPiece 7 slices_S22x512x128_o7_0_0_S1x512x128 inb_S22x512x128_S1x512x128_7_0_0 v3 v6 v4 v232,
   hPiece 6 slices_S22x512x128_o6_0_0_S1x512x128 inb_S22x512x128_S1x512x128_6_0_0 v3 v6 v4 v232,
   hPiece 5 slices_S22x512x128_o5_0_0_S1x512x128 inb_S22x512x128_S1x512x128_5_0_0 v3 v6 v4 v232,
   hPiece 4 slices_S22x512x128_o4_0_0_S1x512x128 inb_S22x512x128_S1x512x128_4_0_0 v3 v6 v4 v232,
   hPiece 3 slices_S22x512x128_o3_0_0_S1x512x128 inb_S22x512x128_S1x512x128_3_0_0 v3 v6 v4 v232,
   hPiece 2 slices_S22x512x128_o2_0_0_S1x512x128 inb_S22x512x128_S1x512x128_2_0_0 v3 v6 v4 v232,
   hPiece 1 slices_S22x512x128_o1_0_0_S1x512x128 inb_S22x512x128_S1x512x128_1_0_0 v3 v6 v4 v232,
   hPiece 0 slices_S22x512x128_o0_0_0_S1x512x128 inb_S22x512x128_S1x512x128_0_0_0 v3 v6 v4 v232]

/-- The stores of one step into the output block, last first. -/
def oList (v3 : Vec F S22x512x128 .f32) (v6 : Vec F S512x384 .f32) (v4 : Vec F S1x128 .f32)
    (v232 : FVec F S22x512x128 .f32) : List (View.Piece (Elt F) S1024x1408 .f32) :=
  [rPiece 21 1344 slices_S22x512x128_o21_0_0_S1x512x128 inb_S1024x1408_S512x64_512_1344 v3 v6 v4 v232,
   lPiece 21 1344 slices_S22x512x128_o21_0_0_S1x512x128 inb_S1024x1408_S512x64_0_1344 v3 v6 v4 v232,
   rPiece 20 1280 slices_S22x512x128_o20_0_0_S1x512x128 inb_S1024x1408_S512x64_512_1280 v3 v6 v4 v232,
   lPiece 20 1280 slices_S22x512x128_o20_0_0_S1x512x128 inb_S1024x1408_S512x64_0_1280 v3 v6 v4 v232,
   rPiece 19 1216 slices_S22x512x128_o19_0_0_S1x512x128 inb_S1024x1408_S512x64_512_1216 v3 v6 v4 v232,
   lPiece 19 1216 slices_S22x512x128_o19_0_0_S1x512x128 inb_S1024x1408_S512x64_0_1216 v3 v6 v4 v232,
   rPiece 18 1152 slices_S22x512x128_o18_0_0_S1x512x128 inb_S1024x1408_S512x64_512_1152 v3 v6 v4 v232,
   lPiece 18 1152 slices_S22x512x128_o18_0_0_S1x512x128 inb_S1024x1408_S512x64_0_1152 v3 v6 v4 v232,
   rPiece 17 1088 slices_S22x512x128_o17_0_0_S1x512x128 inb_S1024x1408_S512x64_512_1088 v3 v6 v4 v232,
   lPiece 17 1088 slices_S22x512x128_o17_0_0_S1x512x128 inb_S1024x1408_S512x64_0_1088 v3 v6 v4 v232,
   rPiece 16 1024 slices_S22x512x128_o16_0_0_S1x512x128 inb_S1024x1408_S512x64_512_1024 v3 v6 v4 v232,
   lPiece 16 1024 slices_S22x512x128_o16_0_0_S1x512x128 inb_S1024x1408_S512x64_0_1024 v3 v6 v4 v232,
   rPiece 15 960 slices_S22x512x128_o15_0_0_S1x512x128 inb_S1024x1408_S512x64_512_960 v3 v6 v4 v232,
   lPiece 15 960 slices_S22x512x128_o15_0_0_S1x512x128 inb_S1024x1408_S512x64_0_960 v3 v6 v4 v232,
   rPiece 14 896 slices_S22x512x128_o14_0_0_S1x512x128 inb_S1024x1408_S512x64_512_896 v3 v6 v4 v232,
   lPiece 14 896 slices_S22x512x128_o14_0_0_S1x512x128 inb_S1024x1408_S512x64_0_896 v3 v6 v4 v232,
   rPiece 13 832 slices_S22x512x128_o13_0_0_S1x512x128 inb_S1024x1408_S512x64_512_832 v3 v6 v4 v232,
   lPiece 13 832 slices_S22x512x128_o13_0_0_S1x512x128 inb_S1024x1408_S512x64_0_832 v3 v6 v4 v232,
   rPiece 12 768 slices_S22x512x128_o12_0_0_S1x512x128 inb_S1024x1408_S512x64_512_768 v3 v6 v4 v232,
   lPiece 12 768 slices_S22x512x128_o12_0_0_S1x512x128 inb_S1024x1408_S512x64_0_768 v3 v6 v4 v232,
   rPiece 11 704 slices_S22x512x128_o11_0_0_S1x512x128 inb_S1024x1408_S512x64_512_704 v3 v6 v4 v232,
   lPiece 11 704 slices_S22x512x128_o11_0_0_S1x512x128 inb_S1024x1408_S512x64_0_704 v3 v6 v4 v232,
   rPiece 10 640 slices_S22x512x128_o10_0_0_S1x512x128 inb_S1024x1408_S512x64_512_640 v3 v6 v4 v232,
   lPiece 10 640 slices_S22x512x128_o10_0_0_S1x512x128 inb_S1024x1408_S512x64_0_640 v3 v6 v4 v232,
   rPiece 9 576 slices_S22x512x128_o9_0_0_S1x512x128 inb_S1024x1408_S512x64_512_576 v3 v6 v4 v232,
   lPiece 9 576 slices_S22x512x128_o9_0_0_S1x512x128 inb_S1024x1408_S512x64_0_576 v3 v6 v4 v232,
   rPiece 8 512 slices_S22x512x128_o8_0_0_S1x512x128 inb_S1024x1408_S512x64_512_512 v3 v6 v4 v232,
   lPiece 8 512 slices_S22x512x128_o8_0_0_S1x512x128 inb_S1024x1408_S512x64_0_512 v3 v6 v4 v232,
   rPiece 7 448 slices_S22x512x128_o7_0_0_S1x512x128 inb_S1024x1408_S512x64_512_448 v3 v6 v4 v232,
   lPiece 7 448 slices_S22x512x128_o7_0_0_S1x512x128 inb_S1024x1408_S512x64_0_448 v3 v6 v4 v232,
   rPiece 6 384 slices_S22x512x128_o6_0_0_S1x512x128 inb_S1024x1408_S512x64_512_384 v3 v6 v4 v232,
   lPiece 6 384 slices_S22x512x128_o6_0_0_S1x512x128 inb_S1024x1408_S512x64_0_384 v3 v6 v4 v232,
   rPiece 5 320 slices_S22x512x128_o5_0_0_S1x512x128 inb_S1024x1408_S512x64_512_320 v3 v6 v4 v232,
   lPiece 5 320 slices_S22x512x128_o5_0_0_S1x512x128 inb_S1024x1408_S512x64_0_320 v3 v6 v4 v232,
   rPiece 4 256 slices_S22x512x128_o4_0_0_S1x512x128 inb_S1024x1408_S512x64_512_256 v3 v6 v4 v232,
   lPiece 4 256 slices_S22x512x128_o4_0_0_S1x512x128 inb_S1024x1408_S512x64_0_256 v3 v6 v4 v232,
   rPiece 3 192 slices_S22x512x128_o3_0_0_S1x512x128 inb_S1024x1408_S512x64_512_192 v3 v6 v4 v232,
   lPiece 3 192 slices_S22x512x128_o3_0_0_S1x512x128 inb_S1024x1408_S512x64_0_192 v3 v6 v4 v232,
   rPiece 2 128 slices_S22x512x128_o2_0_0_S1x512x128 inb_S1024x1408_S512x64_512_128 v3 v6 v4 v232,
   lPiece 2 128 slices_S22x512x128_o2_0_0_S1x512x128 inb_S1024x1408_S512x64_0_128 v3 v6 v4 v232,
   rPiece 1 64 slices_S22x512x128_o1_0_0_S1x512x128 inb_S1024x1408_S512x64_512_64 v3 v6 v4 v232,
   lPiece 1 64 slices_S22x512x128_o1_0_0_S1x512x128 inb_S1024x1408_S512x64_0_64 v3 v6 v4 v232,
   rPiece 0 0 slices_S22x512x128_o0_0_0_S1x512x128 inb_S1024x1408_S512x64_512_0 v3 v6 v4 v232,
   lPiece 0 0 slices_S22x512x128_o0_0_0_S1x512x128 inb_S1024x1408_S512x64_0_0 v3 v6 v4 v232]

end Cert.Proof.KVec
end
-- ==== Proof.KList.lean ====
module

public import proofs.«01_k».proof.Proof.Gen.KernelIdeal.Value
public import proofs.«01_k».proof.Proof.KVec

/-! The stores of one step of the kernel, as lists of the pieces of `KVec`. -/

@[expose] public section

set_option maxRecDepth 16384

noncomputable section

namespace Cert.Proof.KList

open Cert.Proof.KVec Cert.KernelIdeal Cert.KernelIdeal.Gen Idealize.ShloMosaic Idealize.ShloMosaic.TcCoe Idealize.SL.Sem

variable {F : FTy → Type} [FloatOps F] [Named F]

/-- The zero offset of a matrix. -/
theorem hz2 : (![0, 0] : Fin 2 → Nat) = fun _ => 0 := by decide

/-- The zero offset of a stack of matrices. -/
theorem hz3 : (![0, 0, 0] : Fin 3 → Nat) = fun _ => 0 := by decide

/-- The hidden rows the first step reads are the zeros it stored. -/
theorem v3_eq (c : Dev nD) (arg8 : Memref sig .tc .vmem S22x512x128 .f32) :
    kernelRun0_A.sl.v3 (F := F) c arg8 = k0_pay5 := by
  unfold kernelRun0_A.sl.v3 kernelRun0_A.sl.HS0_1
  exact View.readCov_unit_zero (S := S22x512x128) _ hz3 _ _

/-- The packed input rows the first step reads are those it stored. -/
theorem v6_eq (c : Dev nD) (arg2 : Memref sig .tc .vmem S1024x256 .f32) (harg2 : arg2.IsWhole) (arg3 : Memref sig .tc .vmem S256x192 .f32) (harg3 : arg3.IsWhole) (arg4 : Memref sig .tc .vmem S1x192 .f32) (harg4 : arg4.IsWhole)
    (arg9 : Memref sig .tc .vmem S512x384 .f32) (x0 : Vec F S1024x256 .f32) (x1 : Vec F S256x192 .f32) (x2 : Vec F S1x192 .f32) :
    kernelRun0_A.sl.v6 c arg2 harg2 arg3 harg3 arg4 harg4 arg9 x0 x1 x2 = k0_pay4 x0 x1 x2 := by
  unfold kernelRun0_A.sl.v6 kernelRun0_A.sl.HS1_1
  refine (View.readCov_unit_zero (S := S512x384) _ hz2 _ _).trans ?_
  simp only [View.readAt_eq_ld, harg2.read_unread, harg3.read_unread, harg4.read_unread,
    View.ld_unit_zero (S := S1024x256) hz2, View.ld_unit_zero (S := S256x192) hz2,
    View.ld_unit_zero (S := S1x192) hz2]

/-- The stores of a later step into the hidden scratch. -/
theorem runB_h (c : Dev nD) (i : grid0.Coords) (arg2 : Memref sig .tc .vmem S1024x256 .f32) (harg2 : arg2.IsWhole) (arg3 : Memref sig .tc .vmem S256x192 .f32) (harg3 : arg3.IsWhole) (arg4 : Memref sig .tc .vmem S1x192 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x1408 .f32) (harg7 : arg7.IsWhole) (arg8 : Memref sig .tc .vmem S22x512x128 .f32) (harg8 : arg8.IsWhole) (arg9 : Memref sig .tc .vmem S512x384 .f32) (harg9 : arg9.IsWhole) (hc0 : ¬cond0_0 i)
    (x0 : Vec F S1024x256 .f32) (x1 : Vec F S256x192 .f32) (x2 : Vec F S1x192 .f32) (x3 : Vec F S128x128 .f32) (x4 : Vec F S1x128 .f32) (xs0 : Vec F S22x512x128 .f32) (xs1 : Vec F S512x384 .f32) :
    (kernelRun0_B c i arg2 harg2 arg3 harg3 arg4 harg4 arg5 harg5 arg6 harg6 arg7 harg7 arg8 harg8 arg9 harg9 hc0 x0 x1 x2 x3 x4 xs0 xs1).2.1 = hList xs0 xs1 x4 (conv xs0 x3) := by
  have h : (kernelRun0_B c i arg2 harg2 arg3 harg3 arg4 harg4 arg5 harg5 arg6 harg6 arg7 harg7 arg8 harg8 arg9 harg9 hc0 x0 x1 x2 x3 x4 xs0 xs1).2.1 = hList (arg8.view.readAt (Elt F) (Rect.unit ![0, 0, 0] S22x512x128.size inb_S22x512x128_S22x512x128_0_0_0).toLoadRect (harg8.unread xs0))
      (arg9.view.readAt (Elt F) (Rect.unit ![0, 0] S512x384.size inb_S512x384_S512x384_0_0).toLoadRect (harg9.unread xs1))
      (arg6.view.readAt (Elt F) (Rect.unit ![0, 0] S1x128.size inb_S1x128_S1x128_0_0).toLoadRect (harg6.unread x4))
      (conv (arg8.view.readAt (Elt F) (Rect.unit ![0, 0, 0] S22x512x128.size inb_S22x512x128_S22x512x128_0_0_0).toLoadRect (harg8.unread xs0))
        (arg5.view.readAt (Elt F) (Rect.unit ![0, 0] S128x128.size inb_S128x128_S128x128_0_0).toLoadRect (harg5.unread x3))) := by
    unfold kernelRun0_B
    rfl
  rw [h]
  simp only [View.readAt_eq_ld, harg5.read_unread, harg6.read_unread, harg8.read_unread, harg9.read_unread,
    View.ld_unit_zero (S := S22x512x128) hz3, View.ld_unit_zero (S := S512x384) hz2,
    View.ld_unit_zero (S := S128x128) hz2, View.ld_unit_zero (S := S1x128) hz2]

/-- The stores of a later step into the output block. -/
theorem runB_o (c : Dev nD) (i : grid0.Coords) (arg2 : Memref sig .tc .vmem S1024x256 .f32) (harg2 : arg2.IsWhole) (arg3 : Memref sig .tc .vmem S256x192 .f32) (harg3 : arg3.IsWhole) (arg4 : Memref sig .tc .vmem S1x192 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x1408 .f32) (harg7 : arg7.IsWhole) (arg8 : Memref sig .tc .vmem S22x512x128 .f32) (harg8 : arg8.IsWhole) (arg9 : Memref sig .tc .vmem S512x384 .f32) (harg9 : arg9.IsWhole) (hc0 : ¬cond0_0 i)
    (x0 : Vec F S1024x256 .f32) (x1 : Vec F S256x192 .f32) (x2 : Vec F S1x192 .f32) (x3 : Vec F S128x128 .f32) (x4 : Vec F S1x128 .f32) (xs0 : Vec F S22x512x128 .f32) (xs1 : Vec F S512x384 .f32) :
    (kernelRun0_B c i arg2 harg2 arg3 harg3 arg4 harg4 arg5 harg5 arg6 harg6 arg7 harg7 arg8 harg8 arg9 harg9 hc0 x0 x1 x2 x3 x4 xs0 xs1).1 = oList xs0 xs1 x4 (conv xs0 x3) := by
  have h : (kernelRun0_B c i arg2 harg2 arg3 harg3 arg4 harg4 arg5 harg5 arg6 harg6 arg7 harg7 arg8 harg8 arg9 harg9 hc0 x0 x1 x2 x3 x4 xs0 xs1).1 = oList (arg8.view.readAt (Elt F) (Rect.unit ![0, 0, 0] S22x512x128.size inb_S22x512x128_S22x512x128_0_0_0).toLoadRect (harg8.unread xs0))
      (arg9.view.readAt (Elt F) (Rect.unit ![0, 0] S512x384.size inb_S512x384_S512x384_0_0).toLoadRect (harg9.unread xs1))
      (arg6.view.readAt (Elt F) (Rect.unit ![0, 0] S1x128.size inb_S1x128_S1x128_0_0).toLoadRect (harg6.unread x4))
      (conv (arg8.view.readAt (Elt F) (Rect.unit ![0, 0, 0] S22x512x128.size inb_S22x512x128_S22x512x128_0_0_0).toLoadRect (harg8.unread xs0))
        (arg5.view.readAt (Elt F) (Rect.unit ![0, 0] S128x128.size inb_S128x128_S128x128_0_0).toLoadRect (harg5.unread x3))) := by
    unfold kernelRun0_B
    rfl
  rw [h]
  simp only [View.readAt_eq_ld, harg5.read_unread, harg6.read_unread, harg8.read_unread, harg9.read_unread,
    View.ld_unit_zero (S := S22x512x128) hz3, View.ld_unit_zero (S := S512x384) hz2,
    View.ld_unit_zero (S := S128x128) hz2, View.ld_unit_zero (S := S1x128) hz2]

/-- The stores of the first step into the hidden scratch. -/
theorem runA_h (c : Dev nD) (i : grid0.Coords) (arg2 : Memref sig .tc .vmem S1024x256 .f32) (harg2 : arg2.IsWhole) (arg3 : Memref sig .tc .vmem S256x192 .f32) (harg3 : arg3.IsWhole) (arg4 : Memref sig .tc .vmem S1x192 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x1408 .f32) (harg7 : arg7.IsWhole) (arg8 : Memref sig .tc .vmem S22x512x128 .f32) (harg8 : arg8.IsWhole) (arg9 : Memref sig .tc .vmem S512x384 .f32) (harg9 : arg9.IsWhole) (hc0 : cond0_0 i)
    (x0 : Vec F S1024x256 .f32) (x1 : Vec F S256x192 .f32) (x2 : Vec F S1x192 .f32) (x3 : Vec F S128x128 .f32) (x4 : Vec F S1x128 .f32) :
    (kernelRun0_A c i arg2 harg2 arg3 harg3 arg4 harg4 arg5 harg5 arg6 harg6 arg7 harg7 arg8 harg8 arg9 harg9 hc0 x0 x1 x2 x3 x4).2.1 = hList k0_pay5 (k0_pay4 x0 x1 x2) x4 (conv k0_pay5 x3) ++ [⟨Rect.unit ![0, 0, 0] S22x512x128.size inb_S22x512x128_S22x512x128_0_0_0, k0_pay5⟩] := by
  have h : (kernelRun0_A c i arg2 harg2 arg3 harg3 arg4 harg4 arg5 harg5 arg6 harg6 arg7 harg7 arg8 harg8 arg9 harg9 hc0 x0 x1 x2 x3 x4).2.1 = hList (kernelRun0_A.sl.v3 c arg8)
      (kernelRun0_A.sl.v6 c arg2 harg2 arg3 harg3 arg4 harg4 arg9 x0 x1 x2)
      (arg6.view.readAt (Elt F) (Rect.unit ![0, 0] S1x128.size inb_S1x128_S1x128_0_0).toLoadRect (harg6.unread x4))
      (conv (kernelRun0_A.sl.v3 c arg8)
        (arg5.view.readAt (Elt F) (Rect.unit ![0, 0] S128x128.size inb_S128x128_S128x128_0_0).toLoadRect (harg5.unread x3))) ++ [⟨Rect.unit ![0, 0, 0] S22x512x128.size inb_S22x512x128_S22x512x128_0_0_0, k0_pay5⟩] := by
    unfold kernelRun0_A
    rfl
  rw [h, v3_eq, v6_eq]
  simp only [View.readAt_eq_ld, harg5.read_unread, harg6.read_unread,
    View.ld_unit_zero (S := S128x128) hz2, View.ld_unit_zero (S := S1x128) hz2]

/-- The stores of the first step into the output block. -/
theorem runA_o (c : Dev nD) (i : grid0.Coords) (arg2 : Memref sig .tc .vmem S1024x256 .f32) (harg2 : arg2.IsWhole) (arg3 : Memref sig .tc .vmem S256x192 .f32) (harg3 : arg3.IsWhole) (arg4 : Memref sig .tc .vmem S1x192 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x1408 .f32) (harg7 : arg7.IsWhole) (arg8 : Memref sig .tc .vmem S22x512x128 .f32) (harg8 : arg8.IsWhole) (arg9 : Memref sig .tc .vmem S512x384 .f32) (harg9 : arg9.IsWhole) (hc0 : cond0_0 i)
    (x0 : Vec F S1024x256 .f32) (x1 : Vec F S256x192 .f32) (x2 : Vec F S1x192 .f32) (x3 : Vec F S128x128 .f32) (x4 : Vec F S1x128 .f32) :
    (kernelRun0_A c i arg2 harg2 arg3 harg3 arg4 harg4 arg5 harg5 arg6 harg6 arg7 harg7 arg8 harg8 arg9 harg9 hc0 x0 x1 x2 x3 x4).1 = oList k0_pay5 (k0_pay4 x0 x1 x2) x4 (conv k0_pay5 x3) := by
  have h : (kernelRun0_A c i arg2 harg2 arg3 harg3 arg4 harg4 arg5 harg5 arg6 harg6 arg7 harg7 arg8 harg8 arg9 harg9 hc0 x0 x1 x2 x3 x4).1 = oList (kernelRun0_A.sl.v3 c arg8)
      (kernelRun0_A.sl.v6 c arg2 harg2 arg3 harg3 arg4 harg4 arg9 x0 x1 x2)
      (arg6.view.readAt (Elt F) (Rect.unit ![0, 0] S1x128.size inb_S1x128_S1x128_0_0).toLoadRect (harg6.unread x4))
      (conv (kernelRun0_A.sl.v3 c arg8)
        (arg5.view.readAt (Elt F) (Rect.unit ![0, 0] S128x128.size inb_S128x128_S128x128_0_0).toLoadRect (harg5.unread x3))) := by
    unfold kernelRun0_A
    rfl
  rw [h, v3_eq, v6_eq]
  simp only [View.readAt_eq_ld, harg5.read_unread, harg6.read_unread,
    View.ld_unit_zero (S := S128x128) hz2, View.ld_unit_zero (S := S1x128) hz2]

/-- The store of the first step into the scratch of the input rows. -/
theorem runA_x (c : Dev nD) (i : grid0.Coords) (arg2 : Memref sig .tc .vmem S1024x256 .f32) (harg2 : arg2.IsWhole) (arg3 : Memref sig .tc .vmem S256x192 .f32) (harg3 : arg3.IsWhole) (arg4 : Memref sig .tc .vmem S1x192 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x1408 .f32) (harg7 : arg7.IsWhole) (arg8 : Memref sig .tc .vmem S22x512x128 .f32) (harg8 : arg8.IsWhole) (arg9 : Memref sig .tc .vmem S512x384 .f32) (harg9 : arg9.IsWhole) (hc0 : cond0_0 i)
    (x0 : Vec F S1024x256 .f32) (x1 : Vec F S256x192 .f32) (x2 : Vec F S1x192 .f32) (x3 : Vec F S128x128 .f32) (x4 : Vec F S1x128 .f32) :
    (kernelRun0_A c i arg2 harg2 arg3 harg3 arg4 harg4 arg5 harg5 arg6 harg6 arg7 harg7 arg8 harg8 arg9 harg9 hc0 x0 x1 x2 x3 x4).2.2.1 = [⟨Rect.unit ![0, 0] S512x384.size inb_S512x384_S512x384_0_0, k0_pay4 x0 x1 x2⟩] := by
  have h : (kernelRun0_A c i arg2 harg2 arg3 harg3 arg4 harg4 arg5 harg5 arg6 harg6 arg7 harg7 arg8 harg8 arg9 harg9 hc0 x0 x1 x2 x3 x4).2.2.1 = kernelRun0_A.sl.HS1_1 c arg2 harg2 arg3 harg3 arg4 harg4 x0 x1 x2 := by
    unfold kernelRun0_A
    rfl
  rw [h]
  unfold kernelRun0_A.sl.HS1_1
  simp only [View.readAt_eq_ld, harg2.read_unread, harg3.read_unread, harg4.read_unread,
    View.ld_unit_zero (S := S1024x256) hz2, View.ld_unit_zero (S := S256x192) hz2,
    View.ld_unit_zero (S := S1x192) hz2]

end Cert.Proof.KList
end
-- ==== Proof.KPoint.lean ====
module

public import proofs.«01_k».proof.Proof.KList
public import proofs.«01_k».proof.Proof.Consts

/-! The convolution of the kernel at an index: half the neighbour sum times the weights. -/

@[expose] public section

set_option maxRecDepth 16384

noncomputable section

namespace Cert.Proof.KPoint

open Cert.Proof.KVec Cert.Proof.Consts
open Cert.KernelIdeal Cert.KernelIdeal.Gen Idealize.ShloMosaic Idealize.ShloMosaic.TcCoe Idealize.SL.Sem

/-- The convolved rows of the kernel: half the sum over the neighbours, through the paired weights. -/
theorem conv_apply (v3 : Vec Ideal S22x512x128 .f32) (g2 : Vec Ideal S128x128 .f32)
    (H : Fin 22 → Fin 128 → ℝ) (G : Fin 128 → ℝ) (n : Fin 22) (r : Fin 512) (l : Fin 128)
    (hv : ∀ m k, v3 (ix3 m r k) = ((H m k : ℝ) : EReal)) (hg : ∀ k, g2 (ix2 k l) = ((G k : ℝ) : EReal)) :
    conv v3 g2 (ix3 n r l) = ((∑ k, agg (fun m => H m k) n / 2 * G k : ℝ) : EReal) := by
  unfold conv
  unfold_payloads
  pointwise
  obtain ⟨n, hn⟩ := n
  rw [← coe_sum]
  interval_cases n
  all_goals
    refine Finset.sum_congr rfl fun k _ => ?_
    simp only [Nat.reduceSub, Nat.reduceLT, Nat.lt_irrefl, dite_true, dite_false, zero_lt_one, hv, hg,
      c_half, c_quarter, c_three, n_13, n_5, n_h13, n_h5, ← EReal.coe_mul, ← EReal.coe_add, ← EReal.coe_sub]
    congr 1
    simp [agg, Graph.nbrs, nrm, -mul_eq_mul_right_iff, -mul_eq_mul_left_iff]
    ring

end Cert.Proof.KPoint
end
-- ==== Proof.Cell.lean ====
module

public import proofs.«01_k».proof.Proof.Consts

/-! The gated update of one hidden entry, as a real number. -/

@[expose] public section

noncomputable section

namespace Cert.Proof.Cell

open Idealize.ShloMosaic Cert.Proof.Consts

/-- The hyperbolic tangent of an extended real, which is always real. -/
def th (x : EReal) : ℝ := (Ideal.tanh x).toReal

/-- The hyperbolic tangent is the real `th`. -/
theorem tanh_eq (x : EReal) : Ideal.tanh x = ((th x : ℝ) : EReal) := by
  induction x with
  | bot => simp [th]
  | top => simp [th]
  | coe r => simp [th]

/-- The new hidden entry, from the half input entries of the two gates, the input entry, half the
convolved entry and the old hidden entry. -/
def cell (a b c : EReal) (q h : ℝ) : ℝ :=
  h + 1 / 2 * (th (c + q + ((th (a + q) * q : ℝ) : EReal)) - h)
    + th (b + q) * (1 / 2 * (th (c + q + ((th (a + q) * q : ℝ) : EReal)) - h))

/-- Half of a convolved entry: half the sum over the neighbours, through the weights. -/
def convR (W : Fin 64 → Fin 64 → ℝ) (H : Fin 22 → Fin 64 → ℝ) (n : Fin 22) (f : Fin 64) : ℝ :=
  ∑ k, agg (fun m => H m k) n / 2 * W k f

/-- The hidden entries after each step, from none. -/
def hid (a b c : Fin 1024 → Fin 64 → EReal) (W : Fin 64 → Fin 64 → ℝ) (B : Fin 64 → ℝ) :
    ℕ → Fin 1024 → Fin 22 → Fin 64 → ℝ
  | 0 => fun _ _ _ => 0
  | t + 1 => fun i n f =>
    cell (a i f) (b i f) (c i f) (convR W (hid a b c W B t i) n f + 1 / 2 * B f) (hid a b c W B t i n f)

end Cert.Proof.Cell
end
-- ==== Proof.KStep.lean ====
module

public import proofs.«01_k».proof.Proof.KPoint
public import proofs.«01_k».proof.Proof.Cell

/-! What one step of the kernel leaves in the hidden scratch and in the output block. -/

@[expose] public section

set_option maxRecDepth 16384

noncomputable section

namespace Cert.Proof.KStep

open Cert.Proof.KVec Cert.Proof.KList Cert.Proof.Consts Cert.Proof.Cell
open Cert.KernelIdeal Cert.KernelIdeal.Gen Idealize.ShloMosaic Idealize.ShloMosaic.TcCoe Idealize.SL.Sem

/-- The new hidden entry of a node, from real old and convolved entries. -/
theorem node_apply (n : ℕ) (hn : n < 22) (hs : S22x512x128.Slices ![n, 0, 0] S1x512x128)
    (v3 : Vec Ideal S22x512x128 .f32) (v6 : Vec Ideal S512x384 .f32) (v4 : Vec Ideal S1x128 .f32)
    (v232 : FVec Ideal S22x512x128 .f32) (r : Fin 512) (l : Fin 128) (H Q B : ℝ)
    (h3 : v3 (ix3 ⟨n, hn⟩ r l) = ((H : ℝ) : EReal)) (hq : v232 (ix3 ⟨n, hn⟩ r l) = ((Q : ℝ) : EReal))
    (hb : v4 (ix2 0 l) = ((B : ℝ) : EReal)) :
    nodeVec n hs v3 v6 v4 v232 (ix2 r l)
      = ((cell (v6 (ix2 r ⟨l.val, by omega⟩)) (v6 (ix2 r ⟨128 + l.val, by omega⟩))
          (v6 (ix2 r ⟨256 + l.val, by omega⟩)) (Q + 1 / 2 * B) H : ℝ) : EReal) := by
  pointwise [nodeVec, k0_pay6, k0_pay7, k0_pay8, k0_pay9]
  simp only [h3, hq, hb, c_half, tanh_eq, ← EReal.coe_mul, ← EReal.coe_add, ← EReal.coe_sub]
  rfl

section Pieces

variable (v3 : Vec Ideal S22x512x128 .f32) (v6 : Vec Ideal S512x384 .f32) (v4 : Vec Ideal S1x128 .f32)
  (v232 : FVec Ideal S22x512x128 .f32) (N : ℕ → Fin 512 → Fin 128 → ℝ)

/-- The hidden scratch after a step, by its index. -/
def hG (i : S22x512x128.Idx) : EReal := ((N (i 0).val (i 1) (i 2) : ℝ) : EReal)

/-- The output block after a step, by its index. -/
def oG (i : S1024x1408.Idx) : EReal :=
  ((N ((i 1).val / 64) ⟨(i 0).val % 512, by omega⟩
    ⟨(i 0).val / 512 * 64 + (i 1).val % 64, by have := (i 0).isLt; simp at this; omega⟩ : ℝ) : EReal)

/-- The hidden scratch after a step, at an index known by its coordinates. -/
theorem hG_of (i : S22x512x128.Idx) (n : ℕ) (r : Fin 512) (l : Fin 128) (h0 : (i 0).val = n)
    (h1 : (i 1).val = r.val) (h2 : (i 2).val = l.val) : hG N i = ((N n r l : ℝ) : EReal) := by
  unfold hG
  rw [h0, show i 1 = r from Fin.ext h1, show i 2 = l from Fin.ext h2]

/-- The output block after a step, at an index known by its coordinates. -/
theorem oG_of (i : S1024x1408.Idx) (n : ℕ) (r : Fin 512) (l : Fin 128)
    (h0 : (i 1).val = 64 * n + l.val % 64) (h1 : (i 0).val = l.val / 64 * 512 + r.val) :
    oG N i = ((N n r l : ℝ) : EReal) := by
  have hr := r.isLt
  have hl := l.isLt
  unfold oG
  congr 2
  · omega
  · apply Fin.ext; show (i 0).val % 512 = _; omega
  · apply Fin.ext; show (i 0).val / 512 * 64 + (i 1).val % 64 = _; omega

/-- A place of a unit rectangle, one coordinate at a time. -/
theorem emb_val {s : Shape} (off size : Fin s.rank → ℕ) (hi) (y : (Rect.unit off size hi).shape.Idx)
    (a : Fin s.rank) : ((Rect.unit off size hi).emb y a).val = off a + (y a).val := by
  rw [Rect.emb_apply]
  show off a + 1 * (y a).val = _
  omega

/-- A store into the hidden scratch stores the new hidden entries. -/
theorem hPiece_ok (n : ℕ) (hs) (hi)
    (hN : ∀ r l, nodeVec n hs v3 v6 v4 v232 (ix2 r l) = ((N n r l : ℝ) : EReal)) (x) :
    (hPiece n hs hi v3 v6 v4 v232).2 x = hG N ((hPiece n hs hi v3 v6 v4 v232).1.emb x) := by
  have hx : (x 0).val < 1 := (x 0).isLt
  refine Eq.trans ?_ (hG_of N _ n (x 1) (x 2) ((emb_val _ _ hi x 0).trans ?_)
    ((emb_val _ _ hi x 1).trans ?_) ((emb_val _ _ hi x 2).trans ?_)).symm
  · change S1x512x128.Idx at x
    show shapeCast S1x512x128 (nodeVec n hs v3 v6 v4 v232) shapeCasts_S512x128_S1x512x128 x = _
    idx_vars x
    pointwise
    exact hN _ _
  · show n + (x 0).val = n; omega
  · show 0 + (x 1).val = (x 1).val; omega
  · show 0 + (x 2).val = (x 2).val; omega

/-- A store of first row halves into the output block stores the new hidden entries. -/
theorem lPiece_ok (n k : ℕ) (hk : k = 64 * n) (hs) (hi)
    (hN : ∀ r l, nodeVec n hs v3 v6 v4 v232 (ix2 r l) = ((N n r l : ℝ) : EReal)) (x) :
    (lPiece n k hs hi v3 v6 v4 v232).2 x = oG N ((lPiece n k hs hi v3 v6 v4 v232).1.emb x) := by
  have hx0 : (x 0).val < 512 := (x 0).isLt
  have hx1 : (x 1).val < 64 := (x 1).isLt
  refine Eq.trans ?_ (oG_of N _ n (x 0) ⟨(x 1).val, by omega⟩ ((emb_val _ _ hi x 1).trans ?_)
    ((emb_val _ _ hi x 0).trans ?_)).symm
  · change S512x64.Idx at x
    show extractStridedSlice S512x64 ![0, 0] (nodeVec n hs v3 v6 v4 v232) slices_S512x128_o0_0_S512x64 x = _
    idx_vars x
    pointwise
    exact hN _ _
  · show k + (x 1).val = 64 * n + (x 1).val % 64; omega
  · show 0 + (x 0).val = (x 1).val / 64 * 512 + (x 0).val; omega

/-- A store of second row halves into the output block stores the new hidden entries. -/
theorem rPiece_ok (n k : ℕ) (hk : k = 64 * n) (hs) (hi)
    (hN : ∀ r l, nodeVec n hs v3 v6 v4 v232 (ix2 r l) = ((N n r l : ℝ) : EReal)) (x) :
    (rPiece n k hs hi v3 v6 v4 v232).2 x = oG N ((rPiece n k hs hi v3 v6 v4 v232).1.emb x) := by
  have hx0 : (x 0).val < 512 := (x 0).isLt
  have hx1 : (x 1).val < 64 := (x 1).isLt
  refine Eq.trans ?_ (oG_of N _ n (x 0) ⟨64 + (x 1).val, by omega⟩ ((emb_val _ _ hi x 1).trans ?_)
    ((emb_val _ _ hi x 0).trans ?_)).symm
  · change S512x64.Idx at x
    show extractStridedSlice S512x64 ![0, 64] (nodeVec n hs v3 v6 v4 v232) slices_S512x128_o0_64_S512x64 x = _
    idx_vars x
    pointwise
    exact hN _ _
  · show k + (x 1).val = 64 * n + (64 + (x 1).val) % 64; omega
  · show 512 + (x 0).val = (64 + (x 1).val) / 64 * 512 + (x 0).val; omega

variable (hN : ∀ n (_ : n < 22) hs r l, nodeVec n hs v3 v6 v4 v232 (ix2 r l) = ((N n r l : ℝ) : EReal))
include hN

/-- Every store of a step into the hidden scratch stores the new hidden entries. -/
theorem hList_ok : ∀ p ∈ hList v3 v6 v4 v232, ∀ x, p.2 x = hG N (p.1.emb x) := by
  simp only [hList, List.forall_mem_cons, List.not_mem_nil, false_imp_iff, implies_true, and_true]
  exact ⟨hPiece_ok v3 v6 v4 v232 N 21 _ _ (hN 21 (by norm_num) _),
    hPiece_ok v3 v6 v4 v232 N 20 _ _ (hN 20 (by norm_num) _),
    hPiece_ok v3 v6 v4 v232 N 19 _ _ (hN 19 (by norm_num) _),
    hPiece_ok v3 v6 v4 v232 N 18 _ _ (hN 18 (by norm_num) _),
    hPiece_ok v3 v6 v4 v232 N 17 _ _ (hN 17 (by norm_num) _),
    hPiece_ok v3 v6 v4 v232 N 16 _ _ (hN 16 (by norm_num) _),
    hPiece_ok v3 v6 v4 v232 N 15 _ _ (hN 15 (by norm_num) _),
    hPiece_ok v3 v6 v4 v232 N 14 _ _ (hN 14 (by norm_num) _),
    hPiece_ok v3 v6 v4 v232 N 13 _ _ (hN 13 (by norm_num) _),
    hPiece_ok v3 v6 v4 v232 N 12 _ _ (hN 12 (by norm_num) _),
    hPiece_ok v3 v6 v4 v232 N 11 _ _ (hN 11 (by norm_num) _),
    hPiece_ok v3 v6 v4 v232 N 10 _ _ (hN 10 (by norm_num) _),
    hPiece_ok v3 v6 v4 v232 N 9 _ _ (hN 9 (by norm_num) _),
    hPiece_ok v3 v6 v4 v232 N 8 _ _ (hN 8 (by norm_num) _),
    hPiece_ok v3 v6 v4 v232 N 7 _ _ (hN 7 (by norm_num) _),
    hPiece_ok v3 v6 v4 v232 N 6 _ _ (hN 6 (by norm_num) _),
    hPiece_ok v3 v6 v4 v232 N 5 _ _ (hN 5 (by norm_num) _),
    hPiece_ok v3 v6 v4 v232 N 4 _ _ (hN 4 (by norm_num) _),
    hPiece_ok v3 v6 v4 v232 N 3 _ _ (hN 3 (by norm_num) _),
    hPiece_ok v3 v6 v4 v232 N 2 _ _ (hN 2 (by norm_num) _),
    hPiece_ok v3 v6 v4 v232 N 1 _ _ (hN 1 (by norm_num) _),
    hPiece_ok v3 v6 v4 v232 N 0 _ _ (hN 0 (by norm_num) _)⟩

/-- Every store of a step into the output block stores the new hidden entries. -/
theorem oList_ok : ∀ p ∈ oList v3 v6 v4 v232, ∀ x, p.2 x = oG N (p.1.emb x) := by
  simp only [oList, List.forall_mem_cons, List.not_mem_nil, false_imp_iff, implies_true, and_true]
  exact ⟨rPiece_ok v3 v6 v4 v232 N 21 1344 (by norm_num) _ _ (hN 21 (by norm_num) _),
    lPiece_ok v3 v6 v4 v232 N 21 1344 (by norm_num) _ _ (hN 21 (by norm_num) _),
    rPiece_ok v3 v6 v4 v232 N 20 1280 (by norm_num) _ _ (hN 20 (by norm_num) _),
    lPiece_ok v3 v6 v4 v232 N 20 1280 (by norm_num) _ _ (hN 20 (by norm_num) _),
    rPiece_ok v3 v6 v4 v232 N 19 1216 (by norm_num) _ _ (hN 19 (by norm_num) _),
    lPiece_ok v3 v6 v4 v232 N 19 1216 (by norm_num) _ _ (hN 19 (by norm_num) _),
    rPiece_ok v3 v6 v4 v232 N 18 1152 (by norm_num) _ _ (hN 18 (by norm_num) _),
    lPiece_ok v3 v6 v4 v232 N 18 1152 (by norm_num) _ _ (hN 18 (by norm_num) _),
    rPiece_ok v3 v6 v4 v232 N 17 1088 (by norm_num) _ _ (hN 17 (by norm_num) _),
    lPiece_ok v3 v6 v4 v232 N 17 1088 (by norm_num) _ _ (hN 17 (by norm_num) _),
    rPiece_ok v3 v6 v4 v232 N 16 1024 (by norm_num) _ _ (hN 16 (by norm_num) _),
    lPiece_ok v3 v6 v4 v232 N 16 1024 (by norm_num) _ _ (hN 16 (by norm_num) _),
    rPiece_ok v3 v6 v4 v232 N 15 960 (by norm_num) _ _ (hN 15 (by norm_num) _),
    lPiece_ok v3 v6 v4 v232 N 15 960 (by norm_num) _ _ (hN 15 (by norm_num) _),
    rPiece_ok v3 v6 v4 v232 N 14 896 (by norm_num) _ _ (hN 14 (by norm_num) _),
    lPiece_ok v3 v6 v4 v232 N 14 896 (by norm_num) _ _ (hN 14 (by norm_num) _),
    rPiece_ok v3 v6 v4 v232 N 13 832 (by norm_num) _ _ (hN 13 (by norm_num) _),
    lPiece_ok v3 v6 v4 v232 N 13 832 (by norm_num) _ _ (hN 13 (by norm_num) _),
    rPiece_ok v3 v6 v4 v232 N 12 768 (by norm_num) _ _ (hN 12 (by norm_num) _),
    lPiece_ok v3 v6 v4 v232 N 12 768 (by norm_num) _ _ (hN 12 (by norm_num) _),
    rPiece_ok v3 v6 v4 v232 N 11 704 (by norm_num) _ _ (hN 11 (by norm_num) _),
    lPiece_ok v3 v6 v4 v232 N 11 704 (by norm_num) _ _ (hN 11 (by norm_num) _),
    rPiece_ok v3 v6 v4 v232 N 10 640 (by norm_num) _ _ (hN 10 (by norm_num) _),
    lPiece_ok v3 v6 v4 v232 N 10 640 (by norm_num) _ _ (hN 10 (by norm_num) _),
    rPiece_ok v3 v6 v4 v232 N 9 576 (by norm_num) _ _ (hN 9 (by norm_num) _),
    lPiece_ok v3 v6 v4 v232 N 9 576 (by norm_num) _ _ (hN 9 (by norm_num) _),
    rPiece_ok v3 v6 v4 v232 N 8 512 (by norm_num) _ _ (hN 8 (by norm_num) _),
    lPiece_ok v3 v6 v4 v232 N 8 512 (by norm_num) _ _ (hN 8 (by norm_num) _),
    rPiece_ok v3 v6 v4 v232 N 7 448 (by norm_num) _ _ (hN 7 (by norm_num) _),
    lPiece_ok v3 v6 v4 v232 N 7 448 (by norm_num) _ _ (hN 7 (by norm_num) _),
    rPiece_ok v3 v6 v4 v232 N 6 384 (by norm_num) _ _ (hN 6 (by norm_num) _),
    lPiece_ok v3 v6 v4 v232 N 6 384 (by norm_num) _ _ (hN 6 (by norm_num) _),
    rPiece_ok v3 v6 v4 v232 N 5 320 (by norm_num) _ _ (hN 5 (by norm_num) _),
    lPiece_ok v3 v6 v4 v232 N 5 320 (by norm_num) _ _ (hN 5 (by norm_num) _),
    rPiece_ok v3 v6 v4 v232 N 4 256 (by norm_num) _ _ (hN 4 (by norm_num) _),
    lPiece_ok v3 v6 v4 v232 N 4 256 (by norm_num) _ _ (hN 4 (by norm_num) _),
    rPiece_ok v3 v6 v4 v232 N 3 192 (by norm_num) _ _ (hN 3 (by norm_num) _),
    lPiece_ok v3 v6 v4 v232 N 3 192 (by norm_num) _ _ (hN 3 (by norm_num) _),
    rPiece_ok v3 v6 v4 v232 N 2 128 (by norm_num) _ _ (hN 2 (by norm_num) _),
    lPiece_ok v3 v6 v4 v232 N 2 128 (by norm_num) _ _ (hN 2 (by norm_num) _),
    rPiece_ok v3 v6 v4 v232 N 1 64 (by norm_num) _ _ (hN 1 (by norm_num) _),
    lPiece_ok v3 v6 v4 v232 N 1 64 (by norm_num) _ _ (hN 1 (by norm_num) _),
    rPiece_ok v3 v6 v4 v232 N 0 0 (by norm_num) _ _ (hN 0 (by norm_num) _),
    lPiece_ok v3 v6 v4 v232 N 0 0 (by norm_num) _ _ (hN 0 (by norm_num) _)⟩

omit hN

/-- The stores of a step into the hidden scratch cover it. -/
theorem hList_cover (y : S22x512x128.Idx) : ∃ p ∈ hList v3 v6 v4 v232, y ∈ p.1.set :=
  View.cover_of_tiledL (hList v3 v6 v4 v232) S1x512x128.size (by sl_kernel_rfl) y

end Pieces

end Cert.Proof.KStep
end
-- ==== Proof.KHost.lean ====
module

public import proofs.«01_k».proof.Proof.KStep
public import Idealize.ShloMosaic.Lib.StableHlo.ReadAt

/-! The arrays the host prepares for the kernel, at an index, and the blocks the kernel reads. -/

@[expose] public section

set_option maxRecDepth 16384

noncomputable section

namespace Cert.Proof.KHost

open Cert.Proof.Consts
open Cert.KernelIdeal Cert.KernelIdeal.Gen Idealize.ShloMosaic Idealize.ShloMosaic.TcCoe Idealize.SL.Sem

variable (m : (ℓ : Loc nD τ sig) → Buf (Elt Ideal) ℓ) (c : Dev nD)

/-- Input window 0 stays at the origin of its array. -/
theorem index0 (t : Fin cfg0.N) (a) : win0_0.index t a = 0 := by
  revert a; revert t; decide +kernel

/-- The block of input window 0 is its whole array. -/
theorem iblk0 (t : Fin cfg0.N) : iblk m c 0 t = V m c main_arg0 := by
  show (win0_0.blk t).view.read (Elt Ideal) (V m c main_arg0) = _
  exact Memref.read_access_unit_zero (Elt Ideal) main_arg0
    (show (fun a => (win0_0.index t) a * main_arg0.ty.shape.size a) = fun _ => 0 from
      funext fun a => by rw [index0, Nat.zero_mul]) (fun a => by rw [index0, Nat.zero_mul, Nat.zero_add]) _

/-- Input window 1 stays at the origin of its array. -/
theorem index1 (t : Fin cfg0.N) (a) : win0_1.index t a = 0 := by
  revert a; revert t; decide +kernel

/-- The block of input window 1 is its whole array. -/
theorem iblk1 (t : Fin cfg0.N) : iblk m c 1 t = V m c main_v5 := by
  show (win0_1.blk t).view.read (Elt Ideal) (V m c main_v5) = _
  exact Memref.read_access_unit_zero (Elt Ideal) main_v5
    (show (fun a => (win0_1.index t) a * main_v5.ty.shape.size a) = fun _ => 0 from
      funext fun a => by rw [index1, Nat.zero_mul]) (fun a => by rw [index1, Nat.zero_mul, Nat.zero_add]) _

/-- Input window 2 stays at the origin of its array. -/
theorem index2 (t : Fin cfg0.N) (a) : win0_2.index t a = 0 := by
  revert a; revert t; decide +kernel

/-- The block of input window 2 is its whole array. -/
theorem iblk2 (t : Fin cfg0.N) : iblk m c 2 t = V m c main_v11 := by
  show (win0_2.blk t).view.read (Elt Ideal) (V m c main_v11) = _
  exact Memref.read_access_unit_zero (Elt Ideal) main_v11
    (show (fun a => (win0_2.index t) a * main_v11.ty.shape.size a) = fun _ => 0 from
      funext fun a => by rw [index2, Nat.zero_mul]) (fun a => by rw [index2, Nat.zero_mul, Nat.zero_add]) _

/-- Input window 3 stays at the origin of its array. -/
theorem index3 (t : Fin cfg0.N) (a) : win0_3.index t a = 0 := by
  revert a; revert t; decide +kernel

/-- The block of input window 3 is its whole array. -/
theorem iblk3 (t : Fin cfg0.N) : iblk m c 3 t = V m c main_v13 := by
  show (win0_3.blk t).view.read (Elt Ideal) (V m c main_v13) = _
  exact Memref.read_access_unit_zero (Elt Ideal) main_v13
    (show (fun a => (win0_3.index t) a * main_v13.ty.shape.size a) = fun _ => 0 from
      funext fun a => by rw [index3, Nat.zero_mul]) (fun a => by rw [index3, Nat.zero_mul, Nat.zero_add]) _

/-- Input window 4 stays at the origin of its array. -/
theorem index4 (t : Fin cfg0.N) (a) : win0_4.index t a = 0 := by
  revert a; revert t; decide +kernel

/-- The block of input window 4 is its whole array. -/
theorem iblk4 (t : Fin cfg0.N) : iblk m c 4 t = V m c main_v15 := by
  show (win0_4.blk t).view.read (Elt Ideal) (V m c main_v15) = _
  exact Memref.read_access_unit_zero (Elt Ideal) main_v15
    (show (fun a => (win0_4.index t) a * main_v15.ty.shape.size a) = fun _ => 0 from
      funext fun a => by rw [index4, Nat.zero_mul]) (fun a => by rw [index4, Nat.zero_mul, Nat.zero_add]) _

/-- The joined input weights: the two gates' halved, the candidate's as they are. -/
theorem wcat_at (i : Fin 256) (j : Fin 192) : V m c main_v5 (ix2 i j) =
    if h : j.val < 64 then ((1 / 2 : ℝ) : EReal) * m (c, Proc.tc.devRef main_arg1) (ix2 ⟨j.val, h⟩ i)
    else if h : j.val - 64 < 64 then
      ((1 / 2 : ℝ) : EReal) * m (c, Proc.tc.devRef main_arg3) (ix2 ⟨j.val - 64, h⟩ i)
    else m (c, Proc.tc.devRef main_arg5) (ix2 ⟨j.val - 64 - 64, by omega⟩ i) := by
  unfold V
  after_reads_at
  after_reads_at
  rw [c_half]

/-- The joined input biases: the two gates' halved, the candidate's as it is. -/
theorem bcat_at (j : Fin 192) : V m c main_v11 (ix2 0 j) =
    if h : j.val < 64 then ((1 / 2 : ℝ) : EReal) * m (c, Proc.tc.devRef main_arg2) (ix1 ⟨j.val, h⟩)
    else if h : j.val - 64 < 64 then
      ((1 / 2 : ℝ) : EReal) * m (c, Proc.tc.devRef main_arg4) (ix1 ⟨j.val - 64, h⟩)
    else m (c, Proc.tc.devRef main_arg6) (ix1 ⟨j.val - 64 - 64, by omega⟩) := by
  unfold V
  after_reads_at
  after_reads_at
  rw [c_half]

/-- The paired weights, by the four blocks they are joined from. -/
theorem g2_blocks (i j : Fin 128) : V m c main_v13 (ix2 i j) =
    if h : i.val < 64 then
      if h' : j.val < 64 then m (c, Proc.tc.devRef main_arg7) (ix2 ⟨i.val, h⟩ ⟨j.val, h'⟩) else (0 : EReal)
    else if h' : j.val < 64 then (0 : EReal)
    else m (c, Proc.tc.devRef main_arg7) (ix2 ⟨i.val - 64, by omega⟩ ⟨j.val - 64, by omega⟩) := by
  unfold V
  after_reads_at
  after_reads_at
  after_reads_at

/-- The paired weights: the weights on each of the two lane halves, zero across. -/
theorem g2_at (i j : Fin 128) : V m c main_v13 (ix2 i j) =
    if i.val / 64 = j.val / 64 then m (c, Proc.tc.devRef main_arg7)
      (ix2 ⟨i.val % 64, by omega⟩ ⟨j.val % 64, by omega⟩) else (0 : EReal) := by
  rw [g2_blocks]
  have hi := i.isLt
  have hj := j.isLt
  by_cases h : i.val < 64 <;> by_cases h' : j.val < 64
  · have e1 : i.val % 64 = i.val := by omega
    have e2 : j.val % 64 = j.val := by omega
    rw [dif_pos h, dif_pos h', if_pos (by omega)]
    simp only [e1, e2]
  · rw [dif_pos h, dif_neg h', if_neg (by omega)]
  · rw [dif_neg h, dif_pos h', if_neg (by omega)]
  · have e1 : i.val % 64 = i.val - 64 := by omega
    have e2 : j.val % 64 = j.val - 64 := by omega
    rw [dif_neg h, dif_neg h', if_pos (by omega)]
    simp only [e1, e2]

/-- The paired bias: the bias on each of the two lane halves. -/
theorem gb_at (j : Fin 128) : V m c main_v15 (ix2 0 j) =
    m (c, Proc.tc.devRef main_arg8) (ix1 ⟨j.val % 64, by omega⟩) := by
  unfold V
  after_reads_at
  after_reads_at
  have hj := j.isLt
  split
  · congr 2; apply Fin.ext; simp; omega
  · congr 2; apply Fin.ext; simp; omega

/-- The input entry of a gate: a row of the input against a row of the weights, and the bias. -/
def gateX (x : S1024x256.Idx → EReal) (w : S64x256.Idx → EReal) (b : S64.Idx → EReal)
    (i : Fin 1024) (o : Fin 64) : EReal :=
  (∑ k : Fin 256, x (ix2 i k) * w (ix2 o k)) + b (ix1 o)

/-- The batch row a packed row and lane stand for. -/
def row (r : Fin 512) (l : Fin 128) : Fin 1024 := ⟨l.val / 64 * 512 + r.val, by omega⟩

/-- The feature a packed lane stands for. -/
def feat (l : Fin 128) : Fin 64 := ⟨l.val % 64, by omega⟩

/-- The packed input rows of the first gate, at an index. -/
theorem pay4_r (x0 : Vec Ideal S1024x256 .f32) (x1 : Vec Ideal S256x192 .f32) (x2 : Vec Ideal S1x192 .f32)
    (r : Fin 512) (l : Fin 128) : k0_pay4 x0 x1 x2 (ix2 r ⟨l.val, by omega⟩) =
      (∑ k : Fin 256, x0 (ix2 (row r l) k) * x1 (ix2 k ⟨(feat l).val, by have := (feat l).isLt; omega⟩))
        + x2 (ix2 0 ⟨(feat l).val, by have := (feat l).isLt; omega⟩) := by
  pointwise [k0_pay4]
  have hl := l.isLt
  unfold row feat
  split
  · have e1 : l.val / 64 * 512 + r.val = r.val := by omega
    have e2 : l.val % 64 = l.val := by omega
    simp only [e1, e2]
  · have e1 : l.val / 64 * 512 + r.val = 512 + r.val := by omega
    have e2 : l.val % 64 = l.val - 64 := by omega
    simp only [e1, e2]

/-- The packed input rows of the second gate, at an index. -/
theorem pay4_z (x0 : Vec Ideal S1024x256 .f32) (x1 : Vec Ideal S256x192 .f32) (x2 : Vec Ideal S1x192 .f32)
    (r : Fin 512) (l : Fin 128) : k0_pay4 x0 x1 x2 (ix2 r ⟨128 + l.val, by omega⟩) =
      (∑ k : Fin 256, x0 (ix2 (row r l) k) * x1 (ix2 k ⟨64 + (feat l).val, by have := (feat l).isLt; omega⟩))
        + x2 (ix2 0 ⟨64 + (feat l).val, by have := (feat l).isLt; omega⟩) := by
  pointwise [k0_pay4]
  have hl := l.isLt
  unfold row feat
  split
  · have e1 : l.val / 64 * 512 + r.val = r.val := by omega
    have e2 : l.val % 64 = l.val := by omega
    simp only [e1, e2]
  · have e1 : l.val / 64 * 512 + r.val = 512 + r.val := by omega
    have e2 : l.val % 64 = l.val - 64 := by omega
    simp only [e1, e2]

/-- The packed input rows of the candidate, at an index. -/
theorem pay4_h (x0 : Vec Ideal S1024x256 .f32) (x1 : Vec Ideal S256x192 .f32) (x2 : Vec Ideal S1x192 .f32)
    (r : Fin 512) (l : Fin 128) : k0_pay4 x0 x1 x2 (ix2 r ⟨256 + l.val, by omega⟩) =
      (∑ k : Fin 256, x0 (ix2 (row r l) k) * x1 (ix2 k ⟨128 + (feat l).val, by have := (feat l).isLt; omega⟩))
        + x2 (ix2 0 ⟨128 + (feat l).val, by have := (feat l).isLt; omega⟩) := by
  pointwise [k0_pay4]
  have hl := l.isLt
  unfold row feat
  rw [dif_neg (show ¬256 + l.val < 128 by omega), dif_neg (show ¬256 + l.val - 128 < 128 by omega)]
  simp only [show 256 + l.val - 128 - 128 = l.val by omega]
  split
  · have e1 : l.val / 64 * 512 + r.val = r.val := by omega
    have e2 : l.val % 64 = l.val := by omega
    simp only [e1, e2]
  · have e1 : l.val / 64 * 512 + r.val = 512 + r.val := by omega
    have e2 : l.val % 64 = l.val - 64 := by omega
    simp only [e1, e2]

/-- The joined input weights at a column of part r. -/
theorem wcat_r (i : Fin 256) (o : Fin 64) : V m c main_v5 (ix2 i ⟨o.val, by omega⟩) =
    ((1 / 2 : ℝ) : EReal) * m (c, Proc.tc.devRef main_arg1) (ix2 o i) := by
  have ho := o.isLt
  rw [wcat_at, dif_pos (show o.val < 64 from o.isLt)]

/-- The joined input biases at a column of part r. -/
theorem bcat_r (o : Fin 64) : V m c main_v11 (ix2 0 ⟨o.val, by omega⟩) =
    ((1 / 2 : ℝ) : EReal) * m (c, Proc.tc.devRef main_arg2) (ix1 o) := by
  have ho := o.isLt
  rw [bcat_at, dif_pos (show o.val < 64 from o.isLt)]

/-- The joined input weights at a column of part z. -/
theorem wcat_z (i : Fin 256) (o : Fin 64) : V m c main_v5 (ix2 i ⟨64 + o.val, by omega⟩) =
    ((1 / 2 : ℝ) : EReal) * m (c, Proc.tc.devRef main_arg3) (ix2 o i) := by
  have ho := o.isLt
  rw [wcat_at, dif_neg (show ¬64 + o.val < 64 by omega), dif_pos (show 64 + o.val - 64 < 64 by omega)]
  simp only [Nat.add_sub_cancel_left, Fin.eta]

/-- The joined input biases at a column of part z. -/
theorem bcat_z (o : Fin 64) : V m c main_v11 (ix2 0 ⟨64 + o.val, by omega⟩) =
    ((1 / 2 : ℝ) : EReal) * m (c, Proc.tc.devRef main_arg4) (ix1 o) := by
  have ho := o.isLt
  rw [bcat_at, dif_neg (show ¬64 + o.val < 64 by omega), dif_pos (show 64 + o.val - 64 < 64 by omega)]
  simp only [Nat.add_sub_cancel_left, Fin.eta]

/-- The joined input weights at a column of part h. -/
theorem wcat_h (i : Fin 256) (o : Fin 64) : V m c main_v5 (ix2 i ⟨128 + o.val, by omega⟩) =
    m (c, Proc.tc.devRef main_arg5) (ix2 o i) := by
  have ho := o.isLt
  rw [wcat_at, dif_neg (show ¬128 + o.val < 64 by omega), dif_neg (show ¬128 + o.val - 64 < 64 by omega)]
  simp only [show 128 + o.val - 64 - 64 = o.val by omega, Fin.eta]

/-- The joined input biases at a column of part h. -/
theorem bcat_h (o : Fin 64) : V m c main_v11 (ix2 0 ⟨128 + o.val, by omega⟩) =
    m (c, Proc.tc.devRef main_arg6) (ix1 o) := by
  have ho := o.isLt
  rw [bcat_at, dif_neg (show ¬128 + o.val < 64 by omega), dif_neg (show ¬128 + o.val - 64 < 64 by omega)]
  simp only [show 128 + o.val - 64 - 64 = o.val by omega, Fin.eta]

/-- One half goes through a finite sum of extended reals. -/
theorem half_sum {ι : Type} [Fintype ι] (f : ι → EReal) :
    (∑ i, ((1 / 2 : ℝ) : EReal) * f i) = ((1 / 2 : ℝ) : EReal) * ∑ i, f i := by
  classical
  have h0 : (0 : EReal) ≤ ((1 / 2 : ℝ) : EReal) := EReal.coe_nonneg.mpr (by norm_num)
  induction (Finset.univ : Finset ι) using Finset.induction_on with
  | empty => simp
  | insert a s ha ih =>
    rw [Finset.sum_insert ha, Finset.sum_insert ha, ih,
      EReal.left_distrib_of_nonneg_of_ne_top h0 (EReal.coe_ne_top _)]

/-- Halved weights and bias give half the input entry. -/
theorem half_gate (x : S1024x256.Idx → EReal) (w : S64x256.Idx → EReal) (b : S64.Idx → EReal)
    (i : Fin 1024) (o : Fin 64) :
    (∑ k : Fin 256, x (ix2 i k) * (((1 / 2 : ℝ) : EReal) * w (ix2 o k))) + ((1 / 2 : ℝ) : EReal) * b (ix1 o)
      = ((1 / 2 : ℝ) : EReal) * gateX x w b i o := by
  have h0 : (0 : EReal) ≤ ((1 / 2 : ℝ) : EReal) := EReal.coe_nonneg.mpr (by norm_num)
  rw [gateX, EReal.left_distrib_of_nonneg_of_ne_top h0 (EReal.coe_ne_top _), ← half_sum]
  congr 1
  exact Finset.sum_congr rfl fun k _ => mul_left_comm _ _ _

/-- The packed input rows of part r, from the arguments. -/
theorem xp_r (t : Fin cfg0.N) (r : Fin 512) (l : Fin 128) :
    k0_pay4 (iblk m c 0 t) (iblk m c 1 t) (iblk m c 2 t) (ix2 r ⟨l.val, by omega⟩) =
      ((1 / 2 : ℝ) : EReal) * gateX (m (c, Proc.tc.devRef main_arg0)) (m (c, Proc.tc.devRef main_arg1))
        (m (c, Proc.tc.devRef main_arg2)) (row r l) (feat l) := by
  rw [iblk0, iblk1, iblk2, pay4_r, bcat_r, V_main_arg0]
  refine Eq.trans (congrArg (· + _) (Finset.sum_congr rfl fun k _ => congrArg _ (wcat_r m c k (feat l)))) ?_
  exact half_gate _ _ _ _ _

/-- The packed input rows of part z, from the arguments. -/
theorem xp_z (t : Fin cfg0.N) (r : Fin 512) (l : Fin 128) :
    k0_pay4 (iblk m c 0 t) (iblk m c 1 t) (iblk m c 2 t) (ix2 r ⟨128 + l.val, by omega⟩) =
      ((1 / 2 : ℝ) : EReal) * gateX (m (c, Proc.tc.devRef main_arg0)) (m (c, Proc.tc.devRef main_arg3))
        (m (c, Proc.tc.devRef main_arg4)) (row r l) (feat l) := by
  rw [iblk0, iblk1, iblk2, pay4_z, bcat_z, V_main_arg0]
  refine Eq.trans (congrArg (· + _) (Finset.sum_congr rfl fun k _ => congrArg _ (wcat_z m c k (feat l)))) ?_
  exact half_gate _ _ _ _ _

/-- The packed input rows of part h, from the arguments. -/
theorem xp_h (t : Fin cfg0.N) (r : Fin 512) (l : Fin 128) :
    k0_pay4 (iblk m c 0 t) (iblk m c 1 t) (iblk m c 2 t) (ix2 r ⟨256 + l.val, by omega⟩) =
      gateX (m (c, Proc.tc.devRef main_arg0)) (m (c, Proc.tc.devRef main_arg5))
        (m (c, Proc.tc.devRef main_arg6)) (row r l) (feat l) := by
  rw [iblk0, iblk1, iblk2, pay4_h, bcat_h, V_main_arg0]
  exact congrArg (· + _) (Finset.sum_congr rfl fun k _ => congrArg _ (wcat_h m c k (feat l)))

end Cert.Proof.KHost
end
-- ==== Proof.KSweep.lean ====
module

public import proofs.«01_k».proof.Proof.KStep
public import proofs.«01_k».proof.Proof.KHost
public import proofs.«01_k».proof.Proof.Gen.KernelIdeal.Value

/-! What the kernel's scratch and output hold after each step, as the real recurrence. -/

@[expose] public section

set_option maxRecDepth 16384

noncomputable section

namespace Cert.Proof.KSweep

open Cert.Proof.KVec Cert.Proof.KList Cert.Proof.Consts Cert.Proof.Cell Cert.Proof.KStep Cert.Proof.KHost
open Cert.KernelIdeal Cert.KernelIdeal.Gen Idealize.ShloMosaic Idealize.ShloMosaic.TcCoe Idealize.SL.Sem

/-- A sum over packed lanes of one half is a sum over features. -/
theorem sum_half (f : Fin 512 → Fin 128 → Fin 64 → ℝ) (r : Fin 512) (l : Fin 128) :
    (∑ k : Fin 128, if k.val / 64 = l.val / 64 then f r k (feat k) else 0)
      = ∑ k : Fin 64, f r ⟨l.val / 64 * 64 + k.val, by omega⟩ k := by
  have hs := Fin.sum_univ_add (a := 64) (b := 64)
    (fun k : Fin (64 + 64) => if k.val / 64 = l.val / 64 then f r k (feat k) else 0)
  refine hs.trans ?_
  have e1 : ∀ k : Fin 64, feat (Fin.castAdd 64 k : Fin (64 + 64)) = k := fun k => Fin.ext (by
    have := k.isLt
    simp only [feat, Fin.val_castAdd]
    omega)
  have e2 : ∀ k : Fin 64, feat (Fin.natAdd 64 k : Fin (64 + 64)) = k := fun k => Fin.ext (by
    have := k.isLt
    simp only [feat, Fin.val_natAdd]
    omega)
  by_cases h : l.val < 64
  · rw [Finset.sum_eq_zero (s := Finset.univ) (f := fun i : Fin 64 => if (Fin.natAdd 64 i).val / 64 = l.val / 64 then _ else _)
      (fun k _ => if_neg (by have := k.isLt; simp only [Fin.val_natAdd]; omega)), add_zero]
    refine Finset.sum_congr rfl fun k _ => ?_
    rw [if_pos (by have := k.isLt; simp only [Fin.val_castAdd]; omega), e1]
    exact congrArg (fun x => f r x k) (Fin.ext (by simp only [Fin.val_castAdd]; omega))
  · rw [Finset.sum_eq_zero (s := Finset.univ) (f := fun i : Fin 64 => if (Fin.castAdd 64 i).val / 64 = l.val / 64 then _ else _)
      (fun k _ => if_neg (by have := k.isLt; simp only [Fin.val_castAdd]; omega)), zero_add]
    refine Finset.sum_congr rfl fun k _ => ?_
    have hl := l.isLt
    rw [if_pos (by have := k.isLt; simp only [Fin.val_natAdd]; omega), e2]
    exact congrArg (fun x => f r x k) (Fin.ext (by simp only [Fin.val_natAdd]; omega))

/-- The packed hidden entries of the real ones. -/
def pack (h : Fin 1024 → Fin 22 → Fin 64 → ℝ) (n : ℕ) (r : Fin 512) (l : Fin 128) : ℝ :=
  if hn : n < 22 then h (row r l) ⟨n, hn⟩ (feat l) else 0

section Step

variable (a b c : Fin 1024 → Fin 64 → EReal) (W : Fin 64 → Fin 64 → ℝ) (B : Fin 64 → ℝ)

/-- The packed input rows hold the gate inputs. -/
def XOk (v6 : Vec Ideal S512x384 .f32) : Prop := ∀ (r : Fin 512) (l : Fin 128),
  v6 (ix2 r ⟨l.val, by omega⟩) = a (row r l) (feat l) ∧ v6 (ix2 r ⟨128 + l.val, by omega⟩) = b (row r l) (feat l)
    ∧ v6 (ix2 r ⟨256 + l.val, by omega⟩) = c (row r l) (feat l)

/-- One step of the kernel is one step of the recurrence. -/
theorem node_hid (t : ℕ) (v3 : Vec Ideal S22x512x128 .f32) (v6 : Vec Ideal S512x384 .f32)
    (v4 : Vec Ideal S1x128 .f32) (g2 : Vec Ideal S128x128 .f32)
    (h3 : ∀ n r l, v3 (ix3 n r l) = ((hid a b c W B t (row r l) n (feat l) : ℝ) : EReal))
    (h6 : XOk a b c v6) (h4 : ∀ l, v4 (ix2 0 l) = ((B (feat l) : ℝ) : EReal))
    (hg : ∀ k l : Fin 128, g2 (ix2 k l) = ((if k.val / 64 = l.val / 64 then W (feat k) (feat l) else 0 : ℝ) : EReal))
    (n : ℕ) (hn : n < 22) (hs) (r : Fin 512) (l : Fin 128) :
    nodeVec n hs v3 v6 v4 (conv v3 g2) (ix2 r l) = ((pack (hid a b c W B (t + 1)) n r l : ℝ) : EReal) := by
  rw [node_apply n hn hs v3 v6 v4 (conv v3 g2) r l _ _ _ (h3 ⟨n, hn⟩ r l)
    (KPoint.conv_apply v3 g2 (fun m k => hid a b c W B t (row r k) m (feat k))
      (fun k => if k.val / 64 = l.val / 64 then W (feat k) (feat l) else 0) ⟨n, hn⟩ r l
      (fun m k => h3 m r k) (fun k => hg k l)) (h4 l), (h6 r l).1, (h6 r l).2.1, (h6 r l).2.2]
  unfold pack
  rw [dif_pos hn]
  show _ = ((cell (a (row r l) (feat l)) (b (row r l) (feat l)) (c (row r l) (feat l))
    (convR W (hid a b c W B t (row r l)) ⟨n, hn⟩ (feat l) + 1 / 2 * B (feat l))
      (hid a b c W B t (row r l) ⟨n, hn⟩ (feat l)) : ℝ) : EReal)
  have e : (∑ k : Fin 128, agg (fun m => hid a b c W B t (row r k) m (feat k)) ⟨n, hn⟩ / 2
      * (if k.val / 64 = l.val / 64 then W (feat k) (feat l) else 0))
      = convR W (hid a b c W B t (row r l)) ⟨n, hn⟩ (feat l) := by
    unfold convR
    simp only [mul_ite, mul_zero]
    refine (sum_half (fun r k f => agg (fun m => hid a b c W B t (row r k) m f) ⟨n, hn⟩ / 2 * W f (feat l)) r l).trans ?_
    refine Finset.sum_congr rfl fun k _ => ?_
    have er : row r ⟨l.val / 64 * 64 + k.val, by omega⟩ = row r l := Fin.ext (by
      have := k.isLt
      simp only [row]
      omega)
    rw [er]
  rw [e]

variable (m : (ℓ : Loc nD τ sig) → Buf (Elt Ideal) ℓ) (d : Dev nD)

/-- What the output block and the two scratch blocks hold after step `t`. -/
def StOk (t : ℕ) (s : Vec Ideal S1024x1408 .f32 × Vec Ideal S22x512x128 .f32 × Vec Ideal S512x384 .f32) : Prop :=
  s.1 = oG (pack (hid a b c W B (t + 1))) ∧ s.2.1 = hG (pack (hid a b c W B (t + 1))) ∧ XOk a b c s.2.2

/-- The hidden scratch at an index is the recurrence's entry. -/
theorem hG_pack (h : Fin 1024 → Fin 22 → Fin 64 → ℝ) (n : Fin 22) (r : Fin 512) (l : Fin 128) :
    hG (pack h) (ix3 n r l) = ((h (row r l) n (feat l) : ℝ) : EReal) := by
  show ((pack h n.val r l : ℝ) : EReal) = _
  unfold pack
  rw [dif_pos n.isLt]

/-- The zeros the hidden scratch starts from. -/
theorem pay5_at (i : S22x512x128.Idx) : k0_pay5 (F := Ideal) i = (0 : EReal) := by
  idx_vars i
  pointwise [k0_pay5]

/-- A store of the whole packed input rows, read back. -/
theorem read_x (v : View sig .tc .vmem S512x384 .f32) (f : v.ref.ty.Contents (Elt Ideal)) (x : Vec Ideal S512x384 .f32) :
    v.read (Elt Ideal) (v.writes (Elt Ideal) f
      [⟨Rect.unit ![0, 0] S512x384.size inb_S512x384_S512x384_0_0, x⟩]) = x := by
  have he : ∀ y : S512x384.Idx, (Rect.unit ![0, 0] S512x384.size inb_S512x384_S512x384_0_0).emb y = y := fun y =>
    funext fun k => Fin.ext (by
      rw [Rect.emb_apply]
      show (![0, 0] : Fin 2 → ℕ) k + 1 * (y k).val = (y k).val
      rw [hz2]
      show 0 + 1 * (y k).val = (y k).val
      omega)
  funext y
  refine View.read_writes_apply_of_pieces v f x _ ?_ y ?_
  · intro p hp z
    obtain rfl := List.mem_singleton.mp hp
    exact (congrArg x (he z)).symm
  · have hm : ∀ (off : Fin 2 → ℕ) (inb), off = (fun _ => 0) → y ∈ (Rect.unit (s := S512x384) off S512x384.size inb).set := by
      intro off inb ho
      subst ho
      exact Rect.mem_set_unit.mpr fun k => ⟨Nat.zero_le _, lt_of_lt_of_eq (y k).isLt (Nat.zero_add _).symm⟩
    exact ⟨_, List.mem_singleton.mpr rfl, hm _ inb_S512x384_S512x384_0_0 hz2⟩

variable (hx : ∀ t, XOk a b c (k0_pay4 (iblk m d 0 t) (iblk m d 1 t) (iblk m d 2 t)))
  (hg : ∀ t, ∀ k l : Fin 128, iblk m d 3 t (ix2 k l)
    = ((if k.val / 64 = l.val / 64 then W (feat k) (feat l) else 0 : ℝ) : EReal))
  (hb : ∀ t, ∀ l, iblk m d 4 t (ix2 0 l) = ((B (feat l) : ℝ) : EReal))
include hx hg hb

/-- The first step leaves the recurrence's first entries. -/
theorem st_A (t : Fin cfg0.N) (h0 : t.val = 0) (acc) :
    StOk a b c W B t.val (Cert.KernelIdeal.Value.stAt0 m d t.val t.isLt acc) := by
  rw [Cert.KernelIdeal.Value.stAt0_A m d t acc (by rw [h0])]
  have hN := fun n hn hs r l => node_hid a b c W B t.val (k0_pay5 (F := Ideal)) (k0_pay4 (iblk m d 0 t) (iblk m d 1 t) (iblk m d 2 t))
    (iblk m d 4 t) (iblk m d 3 t) (fun n r l => by rw [pay5_at, h0]; rfl) (hx t) (hb t) (hg t) n hn hs r l
  refine ⟨?_, ?_, ?_⟩
  · dsimp only
    unfold out0_A_5
    have hc := cover0_A_5 d (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr (by rw [h0])) (iblk m d 0 t) (iblk m d 1 t) (iblk m d 2 t) (iblk m d 3 t) (iblk m d 4 t)
    rw [runA_o] at hc ⊢
    funext y
    exact View.read_writes_apply_of_pieces _ _ _ _ (oList_ok _ _ _ _ _ hN) y (hc y)
  · dsimp only
    unfold sout0_A_0
    rw [runA_h]
    funext y
    rw [View.writes_append]
    exact View.read_writes_apply_of_pieces _ _ _ _ (hList_ok _ _ _ _ _ hN) y (hList_cover _ _ _ _ y)
  · dsimp only
    unfold sout0_A_1
    rw [runA_x, read_x]
    exact hx t

/-- A later step takes the recurrence one step on. -/
theorem st_B (t : Fin cfg0.N) (j : ℕ) (h0 : t.val = j + 1) (acc) (ha : StOk a b c W B j acc) :
    StOk a b c W B t.val (Cert.KernelIdeal.Value.stAt0 m d t.val t.isLt acc) := by
  have ht : t.val < 20 := lt_of_lt_of_eq t.isLt Cert.KernelIdeal.Gen.N_0
  have hne : ¬t.val % 20 = 0 := by omega
  rw [Cert.KernelIdeal.Value.stAt0_B m d t acc hne]
  obtain ⟨-, hh, hX⟩ := ha
  have hN := fun n hn hs r l => node_hid a b c W B t.val acc.2.1 acc.2.2
    (iblk m d 4 t) (iblk m d 3 t) (fun n r l => by rw [hh, h0, hG_pack]) hX (hb t) (hg t) n hn hs r l
  refine ⟨?_, ?_, ?_⟩
  · dsimp only
    unfold out0_B_5
    have hc := cover0_B_5 d (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => hne ((hcond0_0 t).mp h)) (iblk m d 0 t) (iblk m d 1 t) (iblk m d 2 t) (iblk m d 3 t) (iblk m d 4 t) acc.2.1 acc.2.2
    rw [runB_o] at hc ⊢
    funext y
    exact View.read_writes_apply_of_pieces _ _ _ _ (oList_ok _ _ _ _ _ hN) y (hc y)
  · dsimp only
    unfold sout0_B_0
    rw [runB_h]
    funext y
    exact View.read_writes_apply_of_pieces _ _ _ _ (hList_ok _ _ _ _ _ hN) y (hList_cover _ _ _ _ y)
  · exact hX

/-- After every step the blocks hold the recurrence's entries. -/
theorem sweep (j : ℕ) : ∀ h : 0 + j < cfg0.N, StOk a b c W B j
    (Pipeline.accAt (fun n h => Cert.KernelIdeal.Value.stAt0 m d n h Cert.KernelIdeal.Value.junk0)
      (Cert.KernelIdeal.Value.stAt0 m d) 0 j h) := by
  induction j with
  | zero =>
    intro h
    exact st_A a b c W B m d hx hg hb ⟨0, h⟩ rfl _
  | succ j ih =>
    intro h
    rw [Pipeline.accAt_succ]
    have := st_B a b c W B m d hx hg hb ⟨0 + (j + 1), h⟩ j (Nat.zero_add _) _ (ih (by omega))
    simpa only [Nat.zero_add] using this

/-- What the kernel's output array holds at an index. -/
theorem G5_at (i : Fin 1024) (t : Fin 20) (n : Fin 22) (f : Fin 64) (j : S1024x28160.Idx) (hj0 : (j 0).val = i.val)
    (hj1 : (j 1).val = t.val * 1408 + n.val * 64 + f.val) :
    Cert.KernelIdeal.Value.G5 m d j = ((hid a b c W B (t.val + 1) i n f : ℝ) : EReal) := by
  have hi := i.isLt
  have ht := t.isLt
  have hn := n.isLt
  have hf := f.isLt
  have hp : Cert.KernelIdeal.Value.pt5Of j = t.val := by
    show 20 * ((j 0).val / 1024 - 0) + 1 * ((j 1).val / 1408 - 0) = _
    omega
  unfold Cert.KernelIdeal.Value.G5
  rw [dif_pos (show _ < grid0.N by rw [hp, N_0]; exact ht)]
  rw [Cert.KernelIdeal.Value.fold0_congr m d _ _ _ (show 0 + t.val < grid0.N by rw [N_0]; omega) hp,
    (sweep a b c W B m d hx hg hb t.val (show 0 + t.val < grid0.N by rw [N_0]; omega)).1]
  rw [oG_of (pack (hid a b c W B (t.val + 1))) (Cert.KernelIdeal.Value.loc5Of j) n.val ⟨i.val % 512, by omega⟩ ⟨i.val / 512 * 64 + f.val, by omega⟩
    (by show (j 1).val % 1408 = 64 * n.val + (i.val / 512 * 64 + f.val) % 64; omega)
    (by show (j 0).val % 1024 = (i.val / 512 * 64 + f.val) / 64 * 512 + i.val % 512; omega)]
  unfold pack
  rw [dif_pos hn]
  have e1 : row ⟨i.val % 512, by omega⟩ ⟨i.val / 512 * 64 + f.val, by omega⟩ = i := Fin.ext (by
    simp only [row]
    omega)
  have e2 : feat ⟨i.val / 512 * 64 + f.val, by omega⟩ = f := Fin.ext (by
    simp only [feat]
    omega)
  rw [e1, e2]

end Step

end Cert.Proof.KSweep
end
-- ==== Proof.RIdx.lean ====
module

public import proofs.«01_k».proof.Proof.RefRun
public import proofs.«01_k».proof.Proof.Consts
public import Idealize.ShloMosaic.Lib.Pointwise
public import Idealize.ShloMosaic.Lib.ReduceAll

/-! The reference's gather along the edges, sum over the edges and degree count, at an index. -/

@[expose] public section

set_option maxRecDepth 16384

noncomputable section

namespace Cert.Proof.RIdx

open Cert.ReferenceIdeal Idealize.ShloMosaic Idealize.ShloMosaic.TcCoe Idealize.SL.Sem
open Cert.Proof.Graph

/-- A node's word, read signed. -/
theorem node_toInt : ∀ k : Fin 22, (BitVec.ofNat 32 k.val).toInt = (k.val : ℤ) := by decide

/-- The gather along the edges reads the row the edge's word names. -/
theorem gather_at (x : S1024x22x64.Idx → EReal) (idx : IVec S110x1 32) (i : Fin 1024) (e : Fin 110) (f : Fin 64)
    (k : Fin 22) (hk : idx (ix2 e 0) = BitVec.ofNat 32 k.val) :
    Host.gather gather_S1024x22x64_S110x1_S1024x110x64_02_1_n_n_1_1_1024164 x idx (ix3 i e f) = x (ix3 i k f) := by
  unfold Host.gather
  congr 1
  funext a
  refine Fin.ext ?_
  show GatherDims.start _ _ _ a + GatherDims.batchCoord _ _ a + GatherDims.offCoord _ _ a = _
  match a with
  | ⟨0, _⟩ =>
    show 0 + 0 + i.val = i.val
    omega
  | ⟨1, _⟩ =>
    have hs : (GatherDims.siIdx gather_S1024x22x64_S110x1_S1024x110x64_02_1_n_n_1_1_1024164 (ix3 i e f) ⟨0, by decide⟩)
        = ix2 e 0 := by
      funext b
      refine Fin.ext ?_
      match b with
      | ⟨0, _⟩ => rfl
      | ⟨1, _⟩ => rfl
    show min (idx (GatherDims.siIdx gather_S1024x22x64_S110x1_S1024x110x64_02_1_n_n_1_1_1024164 (ix3 i e f) ⟨0, _⟩)).toInt.toNat 21 + 0 + 0 = k.val
    rw [hs, hk, node_toInt]
    have := k.isLt
    omega
  | ⟨2, _⟩ =>
    show 0 + 0 + f.val = f.val
    omega

/-- Where an edge's update lands. -/
theorem lands (idx : IVec S110x1 32) (i i' : Fin 1024) (e : Fin 110) (f f' : Fin 64) (k n : Fin 22)
    (hk : idx (ix2 e 0) = BitVec.ofNat 32 k.val) :
    ScatterDims.resultIdx? scatter_S22x1024x64_S110x1_S110x1024x64_12_0_0_1 (ix3 e i f) idx = some (ix3 n i' f')
      ↔ k = n ∧ i = i' ∧ f = f' := by
  have hs : (ScatterDims.siIdx scatter_S22x1024x64_S110x1_S110x1024x64_12_0_0_1 (ix3 e i f) ⟨0, by decide⟩)
      = ix2 e 0 := by
    funext b
    refine Fin.ext ?_
    match b with
    | ⟨0, _⟩ => rfl
    | ⟨1, _⟩ => rfl
  have h0 : ScatterDims.start scatter_S22x1024x64_S110x1_S110x1024x64_12_0_0_1 (ix3 e i f) idx 0 = (k.val : ℤ) := by
    show (idx (ScatterDims.siIdx scatter_S22x1024x64_S110x1_S110x1024x64_12_0_0_1 (ix3 e i f) ⟨0, _⟩)).toInt = _
    rw [hs, hk, node_toInt]
  have h1 : ScatterDims.start scatter_S22x1024x64_S110x1_S110x1024x64_12_0_0_1 (ix3 e i f) idx 1 = 0 := rfl
  have h2 : ScatterDims.start scatter_S22x1024x64_S110x1_S110x1024x64_12_0_0_1 (ix3 e i f) idx 2 = 0 := rfl
  have w0 : ScatterDims.window scatter_S22x1024x64_S110x1_S110x1024x64_12_0_0_1 (ix3 e i f) 0 = 0 := rfl
  have w1 : ScatterDims.window scatter_S22x1024x64_S110x1_S110x1024x64_12_0_0_1 (ix3 e i f) 1 = i.val := rfl
  have w2 : ScatterDims.window scatter_S22x1024x64_S110x1_S110x1024x64_12_0_0_1 (ix3 e i f) 2 = f.val := rfl
  have hk' := k.isLt
  have hi := i.isLt
  have hf := f.isLt
  have hin : ∀ a : Fin 3, 0 ≤ ScatterDims.start scatter_S22x1024x64_S110x1_S110x1024x64_12_0_0_1 (ix3 e i f) idx a
        + ScatterDims.window scatter_S22x1024x64_S110x1_S110x1024x64_12_0_0_1 (ix3 e i f) a
      ∧ ScatterDims.start scatter_S22x1024x64_S110x1_S110x1024x64_12_0_0_1 (ix3 e i f) idx a
        + ScatterDims.window scatter_S22x1024x64_S110x1_S110x1024x64_12_0_0_1 (ix3 e i f) a < S22x1024x64.size a := by
    intro a
    match a with
    | ⟨0, _⟩ =>
      show 0 ≤ ScatterDims.start scatter_S22x1024x64_S110x1_S110x1024x64_12_0_0_1 (ix3 e i f) idx 0 + ScatterDims.window scatter_S22x1024x64_S110x1_S110x1024x64_12_0_0_1 (ix3 e i f) 0 ∧ ScatterDims.start scatter_S22x1024x64_S110x1_S110x1024x64_12_0_0_1 (ix3 e i f) idx 0 + ScatterDims.window scatter_S22x1024x64_S110x1_S110x1024x64_12_0_0_1 (ix3 e i f) 0 < 22
      rw [h0, w0]
      omega
    | ⟨1, _⟩ =>
      show 0 ≤ ScatterDims.start scatter_S22x1024x64_S110x1_S110x1024x64_12_0_0_1 (ix3 e i f) idx 1 + ScatterDims.window scatter_S22x1024x64_S110x1_S110x1024x64_12_0_0_1 (ix3 e i f) 1 ∧ ScatterDims.start scatter_S22x1024x64_S110x1_S110x1024x64_12_0_0_1 (ix3 e i f) idx 1 + ScatterDims.window scatter_S22x1024x64_S110x1_S110x1024x64_12_0_0_1 (ix3 e i f) 1 < 1024
      rw [h1, w1]
      omega
    | ⟨2, _⟩ =>
      show 0 ≤ ScatterDims.start scatter_S22x1024x64_S110x1_S110x1024x64_12_0_0_1 (ix3 e i f) idx 2 + ScatterDims.window scatter_S22x1024x64_S110x1_S110x1024x64_12_0_0_1 (ix3 e i f) 2 ∧ ScatterDims.start scatter_S22x1024x64_S110x1_S110x1024x64_12_0_0_1 (ix3 e i f) idx 2 + ScatterDims.window scatter_S22x1024x64_S110x1_S110x1024x64_12_0_0_1 (ix3 e i f) 2 < 64
      rw [h2, w2]
      omega
  have hr : ScatterDims.resultIdx? scatter_S22x1024x64_S110x1_S110x1024x64_12_0_0_1 (ix3 e i f) idx = some (ix3 k i f) := by
    unfold ScatterDims.resultIdx?
    rw [dif_pos hin]
    congr 1
    funext a
    refine Fin.ext ?_
    match a with
    | ⟨0, _⟩ =>
      show (ScatterDims.start scatter_S22x1024x64_S110x1_S110x1024x64_12_0_0_1 (ix3 e i f) idx 0 + ScatterDims.window scatter_S22x1024x64_S110x1_S110x1024x64_12_0_0_1 (ix3 e i f) 0).toNat = k.val
      rw [h0, w0]
      omega
    | ⟨1, _⟩ =>
      show (ScatterDims.start scatter_S22x1024x64_S110x1_S110x1024x64_12_0_0_1 (ix3 e i f) idx 1 + ScatterDims.window scatter_S22x1024x64_S110x1_S110x1024x64_12_0_0_1 (ix3 e i f) 1).toNat = i.val
      rw [h1, w1]
      omega
    | ⟨2, _⟩ =>
      show (ScatterDims.start scatter_S22x1024x64_S110x1_S110x1024x64_12_0_0_1 (ix3 e i f) idx 2 + ScatterDims.window scatter_S22x1024x64_S110x1_S110x1024x64_12_0_0_1 (ix3 e i f) 2).toNat = f.val
      rw [h2, w2]
      omega
  rw [hr]
  constructor
  · intro h
    have h := Option.some.inj h
    exact ⟨congrFun h 0, congrFun h 1, congrFun h 2⟩
  · rintro ⟨rfl, rfl, rfl⟩
    rfl

/-- The sum over the edges at a node: the updates of the edges that end there. -/
theorem scatter_at (x : S22x1024x64.Idx → EReal) (idx : IVec S110x1 32) (upd : S110x1024x64.Idx → EReal)
    (u : Fin 110 → Fin 1024 → Fin 64 → ℝ) (hx : ∀ j, x j = 0)
    (hidx : ∀ e, idx (ix2 e 0) = BitVec.ofNat 32 (dst e).val) (hu : ∀ e i f, upd (ix3 e i f) = ((u e i f : ℝ) : EReal))
    (n : Fin 22) (i : Fin 1024) (f : Fin 64) :
    Host.scatterAdd (F := Ideal) (φ := .f32) scatter_S22x1024x64_S110x1_S110x1024x64_12_0_0_1 x idx upd (ix3 n i f)
      = ((∑ e : Fin 110, if dst e = n then u e i f else 0 : ℝ) : EReal) := by
  show x (ix3 n i f) + ∑ j ∈ Finset.univ.filter (fun j => ScatterDims.resultIdx?
    scatter_S22x1024x64_S110x1_S110x1024x64_12_0_0_1 j idx = some (ix3 n i f)), upd j = _
  rw [hx, zero_add, ← Consts.coe_sum]
  have e1 : (∑ e : Fin 110, (((if dst e = n then u e i f else 0 : ℝ)) : EReal))
      = ∑ e ∈ Finset.univ.filter (fun e => dst e = n), ((u e i f : ℝ) : EReal) := by
    rw [Finset.sum_filter]
    refine Finset.sum_congr rfl fun e _ => ?_
    split <;> simp
  rw [e1]
  refine (Finset.sum_nbij (fun e : Fin 110 => (ix3 e i f : S110x1024x64.Idx)) ?_ ?_ ?_ ?_).symm
  · intro e he
    simp only [Finset.mem_filter, Finset.mem_univ, true_and] at he ⊢
    exact (lands idx i i e f f (dst e) n (hidx e)).2 ⟨he, rfl, rfl⟩
  · intro e _ e' _ h
    exact congrFun h 0
  · intro j hj
    obtain ⟨e, i', f', rfl⟩ : ∃ e i' f', j = ix3 e i' f' := ⟨j 0, j 1, j 2, by
      funext a
      match a with
      | ⟨0, _⟩ => rfl
      | ⟨1, _⟩ => rfl
      | ⟨2, _⟩ => rfl⟩
    have hj := (Finset.mem_filter.mp (Finset.mem_coe.mp hj)).2
    obtain ⟨h1, rfl, rfl⟩ := (lands idx i' i e f' f (dst e) n (hidx e)).1 hj
    exact ⟨e, Finset.mem_coe.mpr (Finset.mem_filter.mpr ⟨Finset.mem_univ _, h1⟩), rfl⟩
  · intro e _
    exact (hu e i f).symm

/-- How many edges end at each node. -/
def deg : Fin 22 → ℕ := ![13, 4, 4, 5, 4, 4, 5, 4, 4, 13, 4, 4, 5, 4, 4, 5, 4, 4, 4, 4, 4, 4]

/-- Counting the edge ends gives the degrees. -/
theorem deg_count : ∀ n : Fin 22,
    Host.scatter scatter_S22_S110x1_S110_n_0_0_1 IntOp.addi (fun _ => 0#32)
      (fun i : S110x1.Idx => Cert.Pre_the_graph.lit1 (i 0)) (fun _ => 1#32) (ix1 n) = BitVec.ofNat 32 (deg n) := by
  decide +kernel

end Cert.Proof.RIdx
end
-- ==== Proof.RStep.lean ====
module

public import proofs.«01_k».proof.Proof.RIdx
public import proofs.«01_k».proof.Proof.Cell
public import Idealize.ShloMosaic.Lib.Pipeline.Value

/-! One step of the reference, at an index. -/

@[expose] public section

set_option maxRecDepth 16384

noncomputable section

namespace Cert.Proof.RStep

open Cert.ReferenceIdeal Cert.ReferenceIdeal.Step Idealize.ShloMosaic Idealize.ShloMosaic.TcCoe Idealize.SL.Sem
open Cert.Proof.Graph Cert.Proof.Cell Cert.Proof.Consts Cert.Proof.RIdx

/-- The neighbour sums of the weighted rows are the weighted neighbour sums. -/
theorem swap (W : Fin 64 → Fin 64 → ℝ) (K : Fin 22 → Fin 64 → ℝ) (n : Fin 22) (f : Fin 64) :
    ((nbrs n).map (fun m => (∑ k, K m k * W k f) * nrm m)).sum * nrm n = 2 * convR W K n f := by
  unfold convR agg
  generalize nbrs n = l
  generalize nrm n = v
  rw [Finset.mul_sum]
  induction l with
  | nil => simp
  | cons x l ih =>
    simp only [List.map_cons, List.sum_cons, add_mul, ih]
    rw [Finset.sum_mul, Finset.sum_mul, ← Finset.sum_add_distrib]
    refine Finset.sum_congr rfl fun k _ => ?_
    ring

/-- The logistic function through the hyperbolic tangent of half. -/
theorem sig_real (y : ℝ) : (1 : ℝ) / (1 + Real.exp (-(2 * y))) = 1 / 2 * (1 + Real.tanh y) := by
  rw [Real.tanh_eq_sinh_div_cosh, Real.sinh_eq, Real.cosh_eq]
  have h := Real.exp_pos y
  have h' := Real.exp_pos (-y)
  have e : Real.exp (-(2 * y)) = Real.exp (-y) * Real.exp (-y) := by
    rw [← Real.exp_add]
    ring_nf
  have e' : Real.exp y * Real.exp (-y) = 1 := by
    rw [← Real.exp_add, add_neg_cancel, Real.exp_zero]
  rw [e]
  have h1 : (1 : ℝ) + Real.exp (-y) * Real.exp (-y) ≠ 0 := by positivity
  have h2 : (Real.exp y + Real.exp (-y)) / 2 ≠ 0 := by positivity
  have h3 : Real.exp y + Real.exp (-y) ≠ 0 := by positivity
  field_simp
  linear_combination (-2 * Real.exp (-y)) * e'

/-- A gate of the reference, as the kernel writes it. -/
theorem sig_eq (X : EReal) (Q : ℝ) : Ideal.div 1 (1 + Ideal.exp (-(X + ((2 * Q : ℝ) : EReal))))
    = ((1 / 2 * (1 + th (((1 / 2 : ℝ) : EReal) * X + ((Q : ℝ) : EReal))) : ℝ) : EReal) := by
  have hp : (0 : ℝ) < 1 / 2 := by norm_num
  induction X with
  | bot =>
    rw [EReal.coe_mul_bot_of_pos hp, EReal.bot_add, EReal.bot_add, EReal.neg_bot, Ideal.exp_top,
      show (1 : EReal) + ⊤ = ⊤ from EReal.coe_add_top 1]
    simp [th, Ideal.div]
  | top =>
    rw [EReal.coe_mul_top_of_pos hp, EReal.top_add_coe, EReal.top_add_coe, EReal.neg_top, Ideal.exp_bot,
      show th ⊤ = 1 by simp [th], show (1 / 2 * (1 + 1) : ℝ) = 1 by norm_num]
    simp [Ideal.div]
  | coe x =>
    rw [← EReal.coe_mul, ← EReal.coe_add, ← EReal.coe_add, ← EReal.coe_neg, Ideal.exp_coe]
    have hd : (1 : ℝ) + Real.exp (-(x + 2 * Q)) ≠ 0 := by positivity
    rw [← EReal.coe_one, ← EReal.coe_add, Ideal.div_coe hd, ← EReal.coe_mul, one_mul,
      show x + 2 * Q = 2 * (1 / 2 * x + Q) by ring, sig_real, th, Ideal.tanh_coe,
      EReal.toReal_coe]

/-- The new hidden entry of the reference is the kernel's. -/
theorem cell_eq (A B C : EReal) (Q h : ℝ) :
    (((1 : ℝ) : EReal) - ((1 / 2 * (1 + th (((1 / 2 : ℝ) : EReal) * B + ((Q : ℝ) : EReal))) : ℝ) : EReal)) * ((h : ℝ) : EReal)
      + ((1 / 2 * (1 + th (((1 / 2 : ℝ) : EReal) * B + ((Q : ℝ) : EReal))) : ℝ) : EReal)
        * Ideal.tanh (C + ((1 / 2 * (1 + th (((1 / 2 : ℝ) : EReal) * A + ((Q : ℝ) : EReal))) : ℝ) : EReal) * ((2 * Q : ℝ) : EReal))
      = ((cell (((1 / 2 : ℝ) : EReal) * A) (((1 / 2 : ℝ) : EReal) * B) C Q h : ℝ) : EReal) := by
  have e : C + ((1 / 2 * (1 + th (((1 / 2 : ℝ) : EReal) * A + ((Q : ℝ) : EReal))) : ℝ) : EReal) * ((2 * Q : ℝ) : EReal)
      = C + ((Q : ℝ) : EReal) + ((th (((1 / 2 : ℝ) : EReal) * A + ((Q : ℝ) : EReal)) * Q : ℝ) : EReal) := by
    rw [add_assoc, ← EReal.coe_mul, ← EReal.coe_add]
    congr 2
    ring
  rw [e, tanh_eq]
  simp only [← EReal.coe_mul, ← EReal.coe_add, ← EReal.coe_sub]
  unfold cell
  congr 1
  ring

/-- A loop state that holds the graph, the weights and the real hidden entries. -/
structure Good (W : Fin 64 → Fin 64 → ℝ) (B : Fin 64 → ℝ) (a b c : Fin 1024 → Fin 64 → EReal)
    (H : Fin 1024 → Fin 22 → Fin 64 → ℝ) (s : State Ideal) : Prop where
  src : ∀ e, s.main_v35_2 (ix1 e) = BitVec.ofNat 32 (src e).val
  dst : ∀ e, s.main_v35_3 (ix1 e) = BitVec.ofNat 32 (dst e).val
  norm : ∀ n, s.main_v35_1 (ix1 n) = ((nrm n : ℝ) : EReal)
  w : ∀ k f, s.main_v35_0 (ix2 k f) = ((W k f : ℝ) : EReal)
  bias : ∀ f, s.main_v35_4 (ix1 f) = ((B f : ℝ) : EReal)
  xr : ∀ i f, s.main_v35_5 (ix3 i 0 f) = a i f
  xz : ∀ i f, s.main_v35_6 (ix3 i 0 f) = b i f
  xh : ∀ i f, s.main_v35_7 (ix3 i 0 f) = c i f
  h : ∀ i n f, s.main_v35_9 (ix3 i n f) = ((H i n f : ℝ) : EReal)

variable {W : Fin 64 → Fin 64 → ℝ} {B : Fin 64 → ℝ} {a b c : Fin 1024 → Fin 64 → EReal}
  {H : Fin 1024 → Fin 22 → Fin 64 → ℝ} {s : State Ideal} (j : ℕ) (g : Good W B a b c H s)
include g

/-- The weighted rows, scaled by their vertex's norm. -/
theorem b3_at (i : Fin 1024) (n : Fin 22) (f : Fin 64) :
    b3 j s (ix3 i n f) = (((∑ k, H i n k * W k f) * nrm n : ℝ) : EReal) := by
  pointwise [b3, b2, b1, b0]
  simp only [g.norm, g.w, g.h, ← EReal.coe_mul, coe_sum]

/-- The wrapped source index of an edge is its source vertex. -/
theorem b11_at (e : Fin 110) : b11 j s (ix2 e 0) = BitVec.ofNat 32 (src e).val := by
  pointwise [b11, b10, b9, b8, b7, b6, b5, b4]
  rw [g.src]
  generalize src e = k
  revert k
  decide

/-- Every source index is in range, so the gather fills nothing. -/
theorem b21_at (e : Fin 110) : b21 j s (ix1 e) = 1#1 := by
  unfold b21
  refine Host.reduce_andi_one _ _ _ _ _ ?_ ?_
  · pointwise [b20]
  · intro i
    obtain ⟨x, rfl⟩ : ∃ x : Fin 110, i = ix2 x 0 := ⟨i 0, by
      funext k
      match k with
      | ⟨0, _⟩ => rfl
      | ⟨1, _⟩ => exact Subsingleton.elim (α := Fin 1) _ _⟩
    have h := b11_at j g x
    pointwise [b19, b18, b17, b16, b15, b14, b13, b12]
    rw [h]
    generalize src x = k
    revert k
    decide

/-- The message an edge carries: its source's weighted row. -/
theorem b27_at (e : Fin 110) (i : Fin 1024) (f : Fin 64) :
    b27 j s (ix3 e i f) = (((∑ k, H i (src e) k * W k f) * nrm (src e) : ℝ) : EReal) := by
  pointwise [b27, b26, b25, b24, b23]
  rw [b21_at j g]
  refine Eq.trans (if_pos rfl) ?_
  unfold b22
  rw [gather_at _ _ _ _ _ _ (b11_at j g e), b3_at j g]

/-- The graph convolution of the hidden state, twice the real half-convolution. -/
theorem b38_at (i : Fin 1024) (n : Fin 22) (f : Fin 64) :
    b38 j s (ix3 i n f) = ((2 * (convR W (H i) n f + 1 / 2 * B f) : ℝ) : EReal) := by
  have h31 : b31 j s (ix3 n i f)
      = ((((nbrs n).map (fun m => (∑ k, H i m k * W k f) * nrm m)).sum : ℝ) : EReal) := by
    unfold b31
    rw [scatter_at _ _ _ (fun e i f => (∑ k, H i (Graph.src e) k * W k f) * nrm (Graph.src e)) ?_ ?_ (fun e i f => b27_at j g e i f),
      ← sum_edges n (fun m => (∑ k, H i m k * W k f) * nrm m)]
    · intro q
      idx_vars q
      pointwise [b29, b28]
    · intro e
      pointwise [b30]
      exact g.dst e
  pointwise [b38, b37, b36, b35, b34, b33, b32]
  rw [h31, g.norm, g.bias, ← EReal.coe_mul, ← EReal.coe_add, swap]
  congr 1
  ring

/-- The new hidden state: one real cell of the recurrence. -/
theorem b68_at (i : Fin 1024) (n : Fin 22) (f : Fin 64) :
    b68 j s (ix3 i n f) = ((cell (((1 / 2 : ℝ) : EReal) * a i f) (((1 / 2 : ℝ) : EReal) * b i f) (c i f)
      (convR W (H i) n f + 1 / 2 * B f) (H i n f) : ℝ) : EReal) := by
  pointwise [b68, b67, b66, b65, b64, b63, b62, b61, b60, b59, b58, b57, b56, b55, b54, b53, b52, b51, b50, b49, b48, b47, b46, b45, b44, b43, b42, b41, b40, b39]
  rw [b38_at j g, g.xr, g.xz, g.xh, g.h]
  rw [sig_eq, sig_eq, ← EReal.coe_one]
  exact cell_eq _ _ _ _ _

omit g

/-- One trip keeps the state good, the hidden entries one step on. -/
theorem Good.step (g : Good W B a b c H s) : Good W B a b c (fun i n f =>
    cell (((1 / 2 : ℝ) : EReal) * a i f) (((1 / 2 : ℝ) : EReal) * b i f) (c i f)
      (convR W (H i) n f + 1 / 2 * B f) (H i n f)) (Step.step j s) where
  src := g.src
  dst := g.dst
  norm := g.norm
  w := g.w
  bias := g.bias
  xr := g.xr
  xz := g.xz
  xh := g.xh
  h i n f := b68_at j g i n f

/-- A write of one slot of the stack, at an index. -/
theorem dus_at (x : S20x1024x22x64.Idx → EReal) (u : S1x1024x22x64.Idx → EReal) (st : Fin 4 → ℤ)
    (h : S20x1024x22x64.Slices (fun _ => 0) S1x1024x22x64) (j : ℕ) (hj : j < 20) (h0 : st 0 = (j : ℤ)) (h1 : st 1 = 0)
    (h2 : st 2 = 0) (h3 : st 3 = 0) (t : Fin 20) (i : Fin 1024) (n : Fin 22) (f : Fin 64) :
    Host.dynamicUpdateSlice x u st h (ix4 t i n f) = if t.val = j then u (ix4 0 i n f) else x (ix4 t i n f) := by
  have e : Host.dynamicUpdateSlice x u st h = updateSlice x u ![j, 0, 0, 0] ⟨rfl, by
      intro k
      match k with
      | ⟨0, _⟩ =>
        show j + 1 ≤ 20
        omega
      | ⟨1, _⟩ => exact le_refl 1024
      | ⟨2, _⟩ => exact le_refl 22
      | ⟨3, _⟩ => exact le_refl 64⟩ := by
    refine Host.dynamicUpdateSlice_eq_updateSlice x u st h ![j, 0, 0, 0] (fun k => ?_) _
    match k with
    | ⟨0, _⟩ =>
      show (min (max (st 0) 0) ((19 : ℕ) : ℤ)).toNat = j
      rw [h0]
      omega
    | ⟨1, _⟩ =>
      show (min (max (st 1) 0) ((0 : ℕ) : ℤ)).toNat = 0
      rw [h1]
      omega
    | ⟨2, _⟩ =>
      show (min (max (st 2) 0) ((0 : ℕ) : ℤ)).toNat = 0
      rw [h2]
      omega
    | ⟨3, _⟩ =>
      show (min (max (st 3) 0) ((0 : ℕ) : ℤ)).toNat = 0
      rw [h3]
      omega
  rw [e]
  pointwise
  by_cases ht : t.val = j
  · rw [dif_pos (by omega), if_pos ht]
    refine congrArg (fun k => u (ix4 k i n f)) (Fin.ext ?_)
    show t.val - j = 0
    omega
  · rw [dif_neg (by omega), if_neg ht]

/-- What a trip leaves in the stacked outputs: the new hidden entries in its own slot. -/
theorem outs_at (hj : j < 20) (t : Fin 20) (i : Fin 1024) (n : Fin 22) (f : Fin 64) :
    (Step.step j s).main_v35_10 (ix4 t i n f)
      = if t.val = j then b68 j s (ix3 i n f) else s.main_v35_10 (ix4 t i n f) := by
  rw [step_main_v35_10]
  unfold b73
  have ej : (BitVec.ofNat 32 j).toInt = (j : ℤ) := by
    interval_cases j <;> decide
  refine (dus_at s.main_v35_10 (b69 j s) _ _ j hj ej rfl rfl rfl t i n f).trans ?_
  have h69 : b69 j s (ix4 0 i n f) = b68 j s (ix3 i n f) := by
    pointwise [b69]
  rw [h69]

end Cert.Proof.RStep
end
-- ==== Proof.RSweep.lean ====
module

public import proofs.«01_k».proof.Proof.RStep

/-! The reference's states and result, as the real recurrence. -/

@[expose] public section

set_option maxRecDepth 16384

noncomputable section

namespace Cert.Proof.RSweep

open Cert.ReferenceIdeal Cert.ReferenceIdeal.Step Idealize.ShloMosaic Idealize.ShloMosaic.TcCoe Idealize.SL.Sem
open Cert.Proof.Graph Cert.Proof.Cell Cert.Proof.Consts Cert.Proof.RIdx Cert.Proof.RStep Cert.Proof.RefRun

/-- The input entry of a gate: a row of the input against a row of the weights, and the bias. -/
def gate (x : S1024x256.Idx → EReal) (w : S64x256.Idx → EReal) (b : S64.Idx → EReal)
    (i : Fin 1024) (o : Fin 64) : EReal :=
  (∑ k : Fin 256, x (ix2 i k) * w (ix2 o k)) + b (ix1 o)

section Setup

variable (x0 : Vec Ideal S1024x256 .f32) (x1 : Vec Ideal S64x256 .f32) (x2 : Vec Ideal S64 .f32)
  (x3 : Vec Ideal S64x256 .f32) (x4 : Vec Ideal S64 .f32) (x5 : Vec Ideal S64x256 .f32) (x6 : Vec Ideal S64 .f32)
  (x10 : IVec S110 32)

/-- The reset gate's input part, at an entry. -/
theorem xr_at (i : Fin 1024) (f : Fin 64) :
    A_main_v20 (F := Ideal) x0 x1 x2 x3 x4 x5 x6 x10 (ix3 i 0 f) = gate x0 x1 x2 i f := by
  pointwise [A_main_v20, A_main_v19, A_main_v18, A_main_v17, A_main_v16, A_main_v15]
  rfl

/-- The update gate's input part, at an entry. -/
theorem xz_at (i : Fin 1024) (f : Fin 64) :
    A_main_v26 (F := Ideal) x0 x1 x2 x3 x4 x5 x6 x10 (ix3 i 0 f) = gate x0 x3 x4 i f := by
  pointwise [A_main_v26, A_main_v25, A_main_v24, A_main_v23, A_main_v22, A_main_v21]
  rfl

/-- The candidate gate's input part, at an entry. -/
theorem xh_at (i : Fin 1024) (f : Fin 64) :
    A_main_v32 (F := Ideal) x0 x1 x2 x3 x4 x5 x6 x10 (ix3 i 0 f) = gate x0 x5 x6 i f := by
  pointwise [A_main_v32, A_main_v31, A_main_v30, A_main_v29, A_main_v28, A_main_v27]
  rfl

variable (hd : ∀ e, x10 (ix1 e) = BitVec.ofNat 32 (dst e).val)
include hd

/-- The wrapped column of end vertices is the table itself. -/
theorem ends_at (i : S110x1.Idx) :
    A_main_v7 (F := Ideal) x0 x1 x2 x3 x4 x5 x6 x10 i = Cert.Pre_the_graph.lit1 (i 0) := by
  obtain ⟨e, rfl⟩ : ∃ e : Fin 110, i = ix2 e 0 := ⟨i 0, by
    funext k
    match k with
    | ⟨0, _⟩ => rfl
    | ⟨1, _⟩ => exact Subsingleton.elim (α := Fin 1) _ _⟩
  show _ = Cert.Pre_the_graph.lit1 e
  pointwise [A_main_v7, A_main_v6, A_main_v5, A_main_v3, A_main_v1, K_main_v2, K_main_v4, K_main_call0_v1, K_main_call0_v0, K_main_c, K_main_c_0, K_main_c_1, K_main_c_2]
  rw [hd, lit1_eq]
  generalize dst e = k
  revert k
  decide

/-- The count of edges ending at a vertex is its degree. -/
theorem deg_at (n : Fin 22) :
    A_main_v9 (F := Ideal) x0 x1 x2 x3 x4 x5 x6 x10 (ix1 n) = BitVec.ofNat 32 (deg n) := by
  unfold A_main_v9
  have e7 : A_main_v7 (F := Ideal) x0 x1 x2 x3 x4 x5 x6 x10 = fun i : S110x1.Idx => Cert.Pre_the_graph.lit1 (i 0) :=
    funext fun i => ends_at x0 x1 x2 x3 x4 x5 x6 x10 hd i
  have e0 : K_main_v0 (F := Ideal) = fun _ => 0#32 := by
    funext i
    idx_vars i
    pointwise [K_main_v0, K_main_c]
  have e8 : K_main_v8 (F := Ideal) = fun _ => 1#32 := by
    funext i
    idx_vars i
    pointwise [K_main_v8, K_main_c_3]
  rw [e7, e0, e8]
  exact deg_count n

omit hd in
/-- The inverse square root of a degree, as the statement's table of norms. -/
theorem pow_deg (n : Fin 22) : Real.rpow (deg n : ℝ) (-(1 / 2)) = nrm n := by
  have e : ∀ x : ℝ, 0 ≤ x → Real.rpow x (-(1 / 2)) = (√x)⁻¹ := fun x hx => by
    show x ^ (-(1 / 2) : ℝ) = _
    rw [Real.rpow_neg hx, Real.sqrt_eq_rpow]
  have h4 : (√(4 : ℝ)) = 2 := by
    rw [show (4 : ℝ) = 2 ^ 2 by norm_num]
    exact Real.sqrt_sq (by norm_num)
  rw [e _ (Nat.cast_nonneg _)]
  fin_cases n <;> simp [nrm, deg, h4]

omit hd in
/-- The integer the norm is taken of: no degree is below one. -/
theorem deg_int (n : Fin 22) : (IntOp.maxsi (BitVec.ofNat 32 (deg n)) 1#32).toInt = (deg n : ℤ) := by
  revert n
  decide

/-- The norm of a vertex, as the reference computes it. -/
theorem norm_at (n : Fin 22) :
    A_main_v14 (F := Ideal) x0 x1 x2 x3 x4 x5 x6 x10 (ix1 n) = ((nrm n : ℝ) : EReal) := by
  pointwise [A_main_v14, A_main_v12, A_main_v11, K_main_v10, K_main_v13, K_main_cst, K_main_c_4]
  rw [deg_at x0 x1 x2 x3 x4 x5 x6 x10 hd, c_mhalf]
  refine Eq.trans (congrArg (fun z : EReal => Ideal.pow z _) (?_ : _ = (((deg n : ℝ)) : EReal))) ?_
  · show (((IntOp.maxsi (BitVec.ofNat 32 (deg n)) 1#32).toInt : ℝ) : EReal) = _
    rw [deg_int, Int.cast_natCast]
  · exact congrArg (fun z : ℝ => (z : EReal)) (pow_deg n)

end Setup

section Run

variable (m : (ℓ : Loc nD τ sig) → Buf (Elt Ideal) ℓ) (d : Dev nD)
  (W : Fin 64 → Fin 64 → ℝ) (B : Fin 64 → ℝ)
  (hs : ∀ e, m (d.tc.loc main_arg9) (ix1 e) = BitVec.ofNat 32 (src e).val)
  (hd : ∀ e, m (d.tc.loc main_arg10) (ix1 e) = BitVec.ofNat 32 (dst e).val)
  (hW : ∀ k f, m (d.tc.loc main_arg7) (ix2 k f) = ((W k f : ℝ) : EReal))
  (hB : ∀ f, m (d.tc.loc main_arg8) (ix1 f) = ((B f : ℝ) : EReal))

/-- The reset gate's input part. -/
def ga (i : Fin 1024) (f : Fin 64) : EReal :=
  gate (m (d.tc.loc main_arg0)) (m (d.tc.loc main_arg1)) (m (d.tc.loc main_arg2)) i f
/-- The update gate's input part. -/
def gz (i : Fin 1024) (f : Fin 64) : EReal :=
  gate (m (d.tc.loc main_arg0)) (m (d.tc.loc main_arg3)) (m (d.tc.loc main_arg4)) i f
/-- The candidate's input part. -/
def gh (i : Fin 1024) (f : Fin 64) : EReal :=
  gate (m (d.tc.loc main_arg0)) (m (d.tc.loc main_arg5)) (m (d.tc.loc main_arg6)) i f

/-- The recurrence at this machine's inputs. -/
def hidR : ℕ → Fin 1024 → Fin 22 → Fin 64 → ℝ :=
  hid (fun i f => ((1 / 2 : ℝ) : EReal) * ga m d i f) (fun i f => ((1 / 2 : ℝ) : EReal) * gz m d i f) (gh m d) W B

include hs hd hW hB

/-- The first state holds the inputs and a zero hidden state. -/
theorem start_good : Good W B (ga m d) (gz m d) (gh m d) (hidR m d W B 0) (start m d) where
  src e := hs e
  dst e := hd e
  norm n := norm_at _ _ _ _ _ _ _ _ hd n
  w k f := hW k f
  bias f := hB f
  xr i f := xr_at _ _ _ _ _ _ _ _ i f
  xz i f := xz_at _ _ _ _ _ _ _ _ i f
  xh i f := xh_at _ _ _ _ _ _ _ _ i f
  h i n f := by
    show K_main_v33 (F := Ideal) (ix3 i n f) = ((0 : ℝ) : EReal)
    pointwise [K_main_v33, K_main_cst_5]
    simp [Ideal.ofBits]

/-- Every state holds the recurrence's hidden state. -/
theorem states_good (k : ℕ) : Good W B (ga m d) (gz m d) (gh m d) (hidR m d W B k) (states m d k) := by
  induction k with
  | zero => exact start_good m d W B hs hd hW hB
  | succ k ih => exact Good.step k ih

/-- After `k` steps the outputs of the steps before are the recurrence's. -/
theorem outs (k : ℕ) (hk : k ≤ 20) (t : Fin 20) (ht : t.val < k) (i : Fin 1024) (n : Fin 22) (f : Fin 64) :
    (states m d k).main_v35_10 (ix4 t i n f) = ((hidR m d W B (t.val + 1) i n f : ℝ) : EReal) := by
  induction k with
  | zero => exact absurd ht (Nat.not_lt_zero _)
  | succ k ih =>
    refine (outs_at k hk t i n f).trans ?_
    by_cases e : t.val = k
    · rw [if_pos e, e]
      exact b68_at k (states_good m d W B hs hd hW hB k) i n f
    · rw [if_neg e]
      exact ih (by omega) (by omega)

/-- The reference's result, at an entry. -/
theorem result_at (i : Fin 1024) (t : Fin 20) (n : Fin 22) (f : Fin 64) (j : S1024x28160.Idx)
    (hj0 : (j 0).val = i.val) (hj1 : (j 1).val = t.val * 1408 + n.val * 64 + f.val) :
    R_main_v37 (states m d 20) j = ((hidR m d W B (t.val + 1) i n f : ℝ) : EReal) := by
  refine Eq.trans ?_ (outs m d W B hs hd hW hB 20 le_rfl t t.isLt i n f)
  unfold R_main_v37
  refine (shapeCast_apply _ _ j (ix4 i t n f : S1024x20x22x64.Idx) ?_).trans ?_
  · refine (Shape.rowMajor_val_four (d := ![1024, 20, 22, 64]) (ix4 i t n f)).trans
      (Eq.trans ?_ (Shape.rowMajor_val_two (d := ![1024, 28160]) j).symm)
    show ((i.val * 20 + t.val) * 22 + n.val) * 64 + f.val = (j 0).val * 28160 + (j 1).val
    omega
  · generalize states m d 20 = s
    pointwise

end Run

end Cert.Proof.RSweep
end
-- ==== Proof.Algebraic.lean ====
module

public import proofs.«01_k».proof.Defs
public import proofs.«01_k».proof.Proof.Domain
public import proofs.«01_k».proof.Proof.KSweep
public import proofs.«01_k».proof.Proof.RSweep

/-! The kernel and the reference compute the same array. -/

@[expose] public section

set_option maxRecDepth 16384

noncomputable section

namespace Cert.Proof.Algebraic

open Idealize.ShloMosaic Idealize.ShloMosaic.TcCoe Idealize.SL.Sem
open Cert.Proof.Graph Cert.Proof.Cell Cert.Proof.Consts Cert.Proof.KHost

section Kernel

open Cert.KernelIdeal Cert.KernelIdeal.Gen

variable (m : (ℓ : Loc nD τ sig) → Buf (Elt Ideal) ℓ) (d : Dev nD)
  (W : Fin 64 → Fin 64 → ℝ) (B : Fin 64 → ℝ)
  (hW : ∀ k f, m (d, Proc.tc.devRef main_arg7) (ix2 k f) = ((W k f : ℝ) : EReal))
  (hB : ∀ f, m (d, Proc.tc.devRef main_arg8) (ix1 f) = ((B f : ℝ) : EReal))

/-- The recurrence at the kernel's inputs. -/
def hidK : ℕ → Fin 1024 → Fin 22 → Fin 64 → ℝ :=
  hid (fun i f => ((1 / 2 : ℝ) : EReal) * gateX (m (d, Proc.tc.devRef main_arg0)) (m (d, Proc.tc.devRef main_arg1)) (m (d, Proc.tc.devRef main_arg2)) i f)
    (fun i f => ((1 / 2 : ℝ) : EReal) * gateX (m (d, Proc.tc.devRef main_arg0)) (m (d, Proc.tc.devRef main_arg3)) (m (d, Proc.tc.devRef main_arg4)) i f)
    (gateX (m (d, Proc.tc.devRef main_arg0)) (m (d, Proc.tc.devRef main_arg5)) (m (d, Proc.tc.devRef main_arg6))) W B

include hW hB

/-- The kernel's result, at an entry. -/
theorem kernel_at (i : Fin 1024) (t : Fin 20) (n : Fin 22) (f : Fin 64) (j : S1024x28160.Idx)
    (hj0 : (j 0).val = i.val) (hj1 : (j 1).val = t.val * 1408 + n.val * 64 + f.val) :
    Cert.KernelIdeal.Value.G5 m d j = ((hidK m d W B (t.val + 1) i n f : ℝ) : EReal) := by
  refine KSweep.G5_at _ _ _ W B m d (fun t r l => ⟨xp_r m d t r l, xp_z m d t r l, xp_h m d t r l⟩)
    (fun t k l => ?_) (fun t l => ?_) i t n f j hj0 hj1
  · rw [iblk3, g2_at]
    by_cases e : k.val / 64 = l.val / 64
    · rw [if_pos e, if_pos e]
      exact hW _ _
    · rw [if_neg e, if_neg e]
      rfl
  · rw [iblk4, gb_at]
    exact hB _

end Kernel

/-- The two results agree wherever the precondition holds. -/
theorem claim : Cert.algebraic_KernelIdeal_ReferenceIdeal_pre_the_graph := by
  intro m ρ m' ρ' hpre hagree
  refine ⟨fun c => Cert.KernelIdeal.Value.G5 m c, Cert.KernelIdeal.Value.run m ρ, ?_⟩
  refine (θ_run _ _ _).mono (fun _ h c => ⟨(h c).1.trans ?_, (h c).2⟩) (Cert.ReferenceIdeal.Value.run m' ρ')
  rw [RefRun.result_eq]
  obtain ⟨a0, a1, a2, a3, a4, a5, a6, a7, a8, a9, a10⟩ := hagree c
  obtain ⟨hs, hd, hW, hB⟩ := Domain.reads _ _ _ _ _ _ _ _ _ _ _ (hpre c)
  funext j
  have hj0 : (j 0).val < 1024 := (j 0).isLt
  have hj1 : (j 1).val < 28160 := (j 1).isLt
  have e1 : (j 1).val = (j 1).val / 1408 * 1408 + (j 1).val % 1408 / 64 * 64 + (j 1).val % 64 := by omega
  refine (RSweep.result_at m' c
    (fun k f => (m (c, Proc.tc.devRef Cert.KernelIdeal.main_arg7) (ix2 k f)).toReal)
    (fun f => (m (c, Proc.tc.devRef Cert.KernelIdeal.main_arg8) (ix1 f)).toReal)
    (fun e => (congrFun a9 _).trans (hs e)) (fun e => (congrFun a10 _).trans (hd e))
    (fun k f => (congrFun a7 _).trans (hW k f)) (fun f => (congrFun a8 _).trans (hB f))
    ⟨(j 0).val, hj0⟩ ⟨(j 1).val / 1408, by omega⟩ ⟨(j 1).val % 1408 / 64, by omega⟩ ⟨(j 1).val % 64, by omega⟩ j rfl e1).trans ?_
  refine Eq.trans ?_ (kernel_at m c _ _ hW hB
    ⟨(j 0).val, hj0⟩ ⟨(j 1).val / 1408, by omega⟩ ⟨(j 1).val % 1408 / 64, by omega⟩ ⟨(j 1).val % 64, by omega⟩ j rfl e1).symm
  unfold RSweep.hidR hidK RSweep.ga RSweep.gz RSweep.gh
  rw [a0, a1, a2, a3, a4, a5, a6]
  rfl

end Cert.Proof.Algebraic
end
-- ==== Proof.lean ====
/- The certificate's claims, assembled. -/
module

public import proofs.«01_k».proof.Defs
public import proofs.«01_k».proof.Proof.Frames
public import proofs.«01_k».proof.Proof.RefRun
public import proofs.«01_k».proof.Proof.Algebraic
public import proofs.«01_k».proof.Proof.Gen.KernelIdeal.Value
public import Idealize.ShloMosaic.Adequacy
public import Idealize.ShloMosaic.Init

@[expose] public section

noncomputable section

namespace Cert.Proof

open Idealize.ShloMosaic Idealize.SL.Sem

/-- Every claim of this certificate. -/
theorem claim : Cert.Claim :=
  ⟨Cert.Kernel.Gen.facts, Cert.KernelIdeal.Gen.facts, Cert.ReferenceIdeal.Gen.facts, preFacts,
    Frames.kernel, Frames.kernelIdeal, Frames.kernelIdeal_pre, Frames.referenceIdeal, Frames.referenceIdeal_pre,
    Frames.preserves, Algebraic.claim⟩

end Cert.Proof

end
